-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1536x8960 : Shape := ⟨3, ![4, 1536, 8960]⟩
abbrev S4x1536 : Shape := ⟨2, ![4, 1536]⟩
abbrev S4480x5120 : Shape := ⟨2, ![4480, 5120]⟩
abbrev S70x5120 : Shape := ⟨2, ![70, 5120]⟩
abbrev S5120 : Shape := ⟨1, ![5120]⟩
abbrev S6144x8960 : Shape := ⟨2, ![6144, 8960]⟩
abbrev S6144x1 : Shape := ⟨2, ![6144, 1]⟩
abbrev S1x5120 : Shape := ⟨2, ![1, 5120]⟩
abbrev S6144x5120 : Shape := ⟨2, ![6144, 5120]⟩
abbrev S1024x8960 : Shape := ⟨2, ![1024, 8960]⟩
abbrev S1024x1 : Shape := ⟨2, ![1024, 1]⟩
abbrev S1x512 : Shape := ⟨2, ![1, 512]⟩
abbrev S4480x512 : Shape := ⟨2, ![4480, 512]⟩
abbrev S70x512 : Shape := ⟨2, ![70, 512]⟩
abbrev S1024x512 : Shape := ⟨2, ![1024, 512]⟩
abbrev S8960x512 : Shape := ⟨2, ![8960, 512]⟩
abbrev S128x512 : Shape := ⟨2, ![128, 512]⟩
abbrev S32x512 : Shape := ⟨2, ![32, 512]⟩
abbrev S4x1536x5120 : Shape := ⟨3, ![4, 1536, 5120]⟩

abbrev nBuf : Space → Nat
  | .hbm => 11
  | .vmem => 21
  | .smem => 0
  | _ => 0

abbrev bufTy : (tb : Table) → Fin (tcTables nBuf tb) → BufTy
  | .hbm, ⟨0, _⟩ => ⟨S4x1536x8960, .i8⟩
  | .hbm, ⟨1, _⟩ => ⟨S4x1536, .f32⟩
  | .hbm, ⟨2, _⟩ => ⟨S4480x5120, .i8⟩
  | .hbm, ⟨3, _⟩ => ⟨S70x5120, .i8⟩
  | .hbm, ⟨4, _⟩ => ⟨S70x5120, .i8⟩
  | .hbm, ⟨5, _⟩ => ⟨S5120, .f32⟩
  | .hbm, ⟨6, _⟩ => ⟨S6144x8960, .i8⟩
  | .hbm, ⟨7, _⟩ => ⟨S6144x1, .f32⟩
  | .hbm, ⟨8, _⟩ => ⟨S1x5120, .f32⟩
  | .hbm, ⟨9, _⟩ => ⟨S6144x5120, .bf16⟩
  | .hbm, ⟨10, _⟩ => ⟨S4x1536x5120, .bf16⟩
  | .local _ .vmem, ⟨0, _⟩ => ⟨S1024x8960, .i8⟩
  | .local _ .vmem, ⟨1, _⟩ => ⟨S1024x8960, .i8⟩
  | .local _ .vmem, ⟨2, _⟩ => ⟨S1024x1, .f32⟩
  | .local _ .vmem, ⟨3, _⟩ => ⟨S1024x1, .f32⟩
  | .local _ .vmem, ⟨4, _⟩ => ⟨S1x512, .f32⟩
  | .local _ .vmem, ⟨5, _⟩ => ⟨S1x512, .f32⟩
  | .local _ .vmem, ⟨6, _⟩ => ⟨S4480x512, .i8⟩
  | .local _ .vmem, ⟨7, _⟩ => ⟨S70x512, .i8⟩
  | .local _ .vmem, ⟨8, _⟩ => ⟨S70x512, .i8⟩
  | .local _ .vmem, ⟨9, _⟩ => ⟨S4480x512, .i8⟩
  | .local _ .vmem, ⟨10, _⟩ => ⟨S4480x512, .i8⟩
  | .local _ .vmem, ⟨11, _⟩ => ⟨S70x512, .i8⟩
  | .local _ .vmem, ⟨12, _⟩ => ⟨S70x512, .i8⟩
  | .local _ .vmem, ⟨13, _⟩ => ⟨S70x512, .i8⟩
  | .local _ .vmem, ⟨14, _⟩ => ⟨S70x512, .i8⟩
  | .local _ .vmem, ⟨15, _⟩ => ⟨S1024x512, .bf16⟩
  | .local _ .vmem, ⟨16, _⟩ => ⟨S1024x512, .bf16⟩
  | .local _ .vmem, ⟨17, _⟩ => ⟨S8960x512, .bf16⟩
  | .local _ .vmem, ⟨18, _⟩ => ⟨S8960x512, .bf16⟩
  | .local _ .vmem, ⟨19, _⟩ => ⟨S70x512, .f32⟩
  | .local _ .vmem, ⟨20, _⟩ => ⟨S70x512, .f32⟩
  | _, _ => ⟨S4x1536x8960, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![10, 6], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_25 : BitVec 32 := 0#32
  let c35_i32 : BitVec 32 := 35#32
  let v46 : BitVec 32 := Scalar.addi c0_i32_25 c35_i32
  let c1_i32_26 : BitVec 32 := 1#32
  ⟨c0_i32_25, v46, c1_i32_26⟩
def k0_mult1 (k0_t1 : Fin k0_t1_loop.trips) : BitVec 32 :=
  let c0_i32_29 : BitVec 32 := 0#32
  let c0_i32_25 : BitVec 32 := 0#32
  let c1_i32_26 : BitVec 32 := 1#32
  let arg16 : BitVec 32 := Scf.iv c0_i32_25 c1_i32_26 k0_t1
  let c1_i32_28 : BitVec 32 := 1#32
  let v47 : BitVec 32 := Scalar.muli arg16 c1_i32_28
  let v48 : BitVec 32 := Scalar.addi c0_i32_29 v47
  let c0_i32_30 : BitVec 32 := 0#32
  let v49 : BitVec 32 := Scalar.addi v48 c0_i32_30
  let c128_i32 : BitVec 32 := 128#32
  let v50 : BitVec 32 := Scalar.muli v49 c128_i32
  v50
def k0_off1 (k0_t1 : Fin k0_t1_loop.trips) : Fin 2 → Nat :=
  let c0_i32_29 : BitVec 32 := 0#32
  let c0_i32_25 : BitVec 32 := 0#32
  let c1_i32_26 : BitVec 32 := 1#32
  let arg16 : BitVec 32 := Scf.iv c0_i32_25 c1_i32_26 k0_t1
  let c1_i32_28 : BitVec 32 := 1#32
  let v47 : BitVec 32 := Scalar.muli arg16 c1_i32_28
  let v48 : BitVec 32 := Scalar.addi c0_i32_29 v47
  let c0_i32_30 : BitVec 32 := 0#32
  let v49 : BitVec 32 := Scalar.addi v48 c0_i32_30
  let c128_i32 : BitVec 32 := 128#32
  let v50 : BitVec 32 := Scalar.muli v49 c128_i32
  let v51 : BitVec 32 := v50
  let v52 : Index := Scalar.indexCast v51
  let c0_31 : Index := 0#32
  ![v52.toNat, 0]
def k0_off2 (k0_t1 : Fin k0_t1_loop.trips) (c0_i32_33 : BitVec 32) : Fin 2 → Nat :=
  let c0_i32_29 : BitVec 32 := 0#32
  let c0_i32_25 : BitVec 32 := 0#32
  let c1_i32_26 : BitVec 32 := 1#32
  let arg16 : BitVec 32 := Scf.iv c0_i32_25 c1_i32_26 k0_t1
  let c1_i32_28 : BitVec 32 := 1#32
  let v47 : BitVec 32 := Scalar.muli arg16 c1_i32_28
  let v48 : BitVec 32 := Scalar.addi c0_i32_29 v47
  let c0_i32_30 : BitVec 32 := 0#32
  let v49 : BitVec 32 := Scalar.addi v48 c0_i32_30
  let v63 : BitVec 32 := Scalar.addi v49 c0_i32_33
  let v64 : Index := Scalar.indexCast v63
  let c0_34 : Index := 0#32
  ![v64.toNat, 0]
def k0_off3 (k0_t1 : Fin k0_t1_loop.trips) (c0_i32_37 : BitVec 32) : Fin 2 → Nat :=
  let c0_i32_29 : BitVec 32 := 0#32
  let c0_i32_25 : BitVec 32 := 0#32
  let c1_i32_26 : BitVec 32 := 1#32
  let arg16 : BitVec 32 := Scf.iv c0_i32_25 c1_i32_26 k0_t1
  let c1_i32_28 : BitVec 32 := 1#32
  let v47 : BitVec 32 := Scalar.muli arg16 c1_i32_28
  let v48 : BitVec 32 := Scalar.addi c0_i32_29 v47
  let c0_i32_30 : BitVec 32 := 0#32
  let v49 : BitVec 32 := Scalar.addi v48 c0_i32_30
  let c128_i32 : BitVec 32 := 128#32
  let v50 : BitVec 32 := Scalar.muli v49 c128_i32
  let v51 : BitVec 32 := v50
  let v75 : BitVec 32 := Scalar.addi v51 c0_i32_37
  let v76 : Index := Scalar.indexCast v75
  let c0_38 : Index := 0#32
  ![v76.toNat, 0]
def k0_cond3 (i : grid0.Coords) : BitVec 1 :=
  let arg0 : BitVec 32 := BitVec.ofNat 32 (i 0).val
  let c2_i32 : BitVec 32 := 2#32
  let c0_i32_4 : BitVec 32 := 0#32
  let v8 : BitVec 1 := Scalar.cmpi .eq c2_i32 c0_i32_4
  let c1_i32 : BitVec 32 := 1#32
  let v9 : BitVec 32 := Scalar.select v8 c1_i32 c2_i32
  let v10 : BitVec 32 := Scalar.remsi arg0 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c0_i32_8 : BitVec 32 := 0#32
  let v18 : BitVec 1 := Scalar.cmpi .eq v17 c0_i32_8
  let v19 : BitVec 32 := Scalar.extui v18
  let c0_i32_9 : BitVec 32 := 0#32
  let v20 : BitVec 1 := Scalar.cmpi .ne v19 c0_i32_9
  v20

def k0_mult2 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c0_i32_18 : BitVec 32 := 0#32
  let v36 : BitVec 32 := Scalar.addi v35 c0_i32_18
  let c128_i32 : BitVec 32 := 128#32
  let v37 : BitVec 32 := Scalar.muli v36 c128_i32
  v37
def k0_off4 (i : grid0.Coords) (c0_i32_18 : BitVec 32) : Fin 2 → Nat :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let v36 : BitVec 32 := Scalar.addi v35 c0_i32_18
  let c128_i32 : BitVec 32 := 128#32
  let v37 : BitVec 32 := Scalar.muli v36 c128_i32
  let v38 : BitVec 32 := v37
  let v39 : Index := Scalar.indexCast v38
  let c0 : Index := 0#32
  ![v39.toNat, 0]
def k0_off5 (i : grid0.Coords) (c0_i32_18 : BitVec 32) (c0_i32_20 : BitVec 32) : Fin 2 → Nat :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let v36 : BitVec 32 := Scalar.addi v35 c0_i32_18
  let v50 : BitVec 32 := Scalar.addi v36 c0_i32_20
  let v51 : Index := Scalar.indexCast v50
  let c0_21 : Index := 0#32
  ![v51.toNat, 0]
def k0_off6 (i : grid0.Coords) (c0_i32_18 : BitVec 32) (c0_i32_24 : BitVec 32) : Fin 2 → Nat :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let v36 : BitVec 32 := Scalar.addi v35 c0_i32_18
  let c128_i32 : BitVec 32 := 128#32
  let v37 : BitVec 32 := Scalar.muli v36 c128_i32
  let v38 : BitVec 32 := v37
  let v62 : BitVec 32 := Scalar.addi v38 c0_i32_24
  let v63 : Index := Scalar.indexCast v62
  let c0_25 : Index := 0#32
  ![v63.toNat, 0]
def k0_mult3 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c1_i32_30 : BitVec 32 := 1#32
  let v86 : BitVec 32 := Scalar.addi v35 c1_i32_30
  let c128_i32_31 : BitVec 32 := 128#32
  let v87 : BitVec 32 := Scalar.muli v86 c128_i32_31
  v87
def k0_mult4 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c2_i32_48 : BitVec 32 := 2#32
  let v136 : BitVec 32 := Scalar.addi v35 c2_i32_48
  let c128_i32_49 : BitVec 32 := 128#32
  let v137 : BitVec 32 := Scalar.muli v136 c128_i32_49
  v137
def k0_mult5 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c3_i32 : BitVec 32 := 3#32
  let v186 : BitVec 32 := Scalar.addi v35 c3_i32
  let c128_i32_66 : BitVec 32 := 128#32
  let v187 : BitVec 32 := Scalar.muli v186 c128_i32_66
  v187
def k0_mult6 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c4_i32_83 : BitVec 32 := 4#32
  let v236 : BitVec 32 := Scalar.addi v35 c4_i32_83
  let c128_i32_84 : BitVec 32 := 128#32
  let v237 : BitVec 32 := Scalar.muli v236 c128_i32_84
  v237
def k0_mult7 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c5_i32 : BitVec 32 := 5#32
  let v286 : BitVec 32 := Scalar.addi v35 c5_i32
  let c128_i32_101 : BitVec 32 := 128#32
  let v287 : BitVec 32 := Scalar.muli v286 c128_i32_101
  v287
def k0_cond4 (i : grid0.Coords) : BitVec 1 :=
  let arg0 : BitVec 32 := BitVec.ofNat 32 (i 0).val
  let c2_i32_10 : BitVec 32 := 2#32
  let c0_i32_11 : BitVec 32 := 0#32
  let v21 : BitVec 1 := Scalar.cmpi .eq c2_i32_10 c0_i32_11
  let c1_i32_12 : BitVec 32 := 1#32
  let v22 : BitVec 32 := Scalar.select v21 c1_i32_12 c2_i32_10
  let v23 : BitVec 32 := Scalar.remsi arg0 v22
  let c0_i32_14 : BitVec 32 := 0#32
  let v25 : BitVec 1 := Scalar.cmpi .slt v23 c0_i32_14
  let c0_i32_15 : BitVec 32 := 0#32
  let v26 : BitVec 1 := Scalar.cmpi .slt v22 c0_i32_15
  let v27 : BitVec 1 := Scalar.xori v25 v26
  let c0_i32_13 : BitVec 32 := 0#32
  let v24 : BitVec 1 := Scalar.cmpi .ne v23 c0_i32_13
  let v28 : BitVec 1 := Scalar.andi v27 v24
  let v29 : BitVec 32 := Scalar.addi v23 v22
  let v30 : BitVec 32 := Scalar.select v28 v29 v23
  let c1_i32_16 : BitVec 32 := 1#32
  let v31 : BitVec 1 := Scalar.cmpi .eq v30 c1_i32_16
  let v32 : BitVec 32 := Scalar.extui v31
  let c0_i32_17 : BitVec 32 := 0#32
  let v33 : BitVec 1 := Scalar.cmpi .ne v32 c0_i32_17
  v33

def k0_mult8 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c0_i32_18 : BitVec 32 := 0#32
  let v36 : BitVec 32 := Scalar.addi v35 c0_i32_18
  let c128_i32 : BitVec 32 := 128#32
  let v37 : BitVec 32 := Scalar.muli v36 c128_i32
  v37
def k0_off7 (i : grid0.Coords) (c0_i32_18 : BitVec 32) : Fin 2 → Nat :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let v36 : BitVec 32 := Scalar.addi v35 c0_i32_18
  let c128_i32 : BitVec 32 := 128#32
  let v37 : BitVec 32 := Scalar.muli v36 c128_i32
  let v38 : BitVec 32 := v37
  let v39 : Index := Scalar.indexCast v38
  let c0 : Index := 0#32
  ![v39.toNat, 0]
def k0_off8 (i : grid0.Coords) (c0_i32_18 : BitVec 32) (c0_i32_20 : BitVec 32) : Fin 2 → Nat :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let v36 : BitVec 32 := Scalar.addi v35 c0_i32_18
  let v50 : BitVec 32 := Scalar.addi v36 c0_i32_20
  let v51 : Index := Scalar.indexCast v50
  let c0_21 : Index := 0#32
  ![v51.toNat, 0]
def k0_off9 (i : grid0.Coords) (c0_i32_18 : BitVec 32) (c0_i32_24 : BitVec 32) : Fin 2 → Nat :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let v36 : BitVec 32 := Scalar.addi v35 c0_i32_18
  let c128_i32 : BitVec 32 := 128#32
  let v37 : BitVec 32 := Scalar.muli v36 c128_i32
  let v38 : BitVec 32 := v37
  let v62 : BitVec 32 := Scalar.addi v38 c0_i32_24
  let v63 : Index := Scalar.indexCast v62
  let c0_25 : Index := 0#32
  ![v63.toNat, 0]
def k0_mult9 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c1_i32_30 : BitVec 32 := 1#32
  let v86 : BitVec 32 := Scalar.addi v35 c1_i32_30
  let c128_i32_31 : BitVec 32 := 128#32
  let v87 : BitVec 32 := Scalar.muli v86 c128_i32_31
  v87
def k0_mult10 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c2_i32_48 : BitVec 32 := 2#32
  let v136 : BitVec 32 := Scalar.addi v35 c2_i32_48
  let c128_i32_49 : BitVec 32 := 128#32
  let v137 : BitVec 32 := Scalar.muli v136 c128_i32_49
  v137
def k0_mult11 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c3_i32 : BitVec 32 := 3#32
  let v186 : BitVec 32 := Scalar.addi v35 c3_i32
  let c128_i32_66 : BitVec 32 := 128#32
  let v187 : BitVec 32 := Scalar.muli v186 c128_i32_66
  v187
def k0_mult12 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c4_i32_83 : BitVec 32 := 4#32
  let v236 : BitVec 32 := Scalar.addi v35 c4_i32_83
  let c128_i32_84 : BitVec 32 := 128#32
  let v237 : BitVec 32 := Scalar.muli v236 c128_i32_84
  v237
def k0_mult13 (i : grid0.Coords) : BitVec 32 :=
  let arg1 : BitVec 32 := BitVec.ofNat 32 (i 1).val
  let c6_i32 : BitVec 32 := 6#32
  let v34 : BitVec 32 := Scalar.muli arg1 c6_i32
  let c29_i32 : BitVec 32 := 29#32
  let v35 : BitVec 32 := Scalar.minsi v34 c29_i32
  let c5_i32 : BitVec 32 := 5#32
  let v286 : BitVec 32 := Scalar.addi v35 c5_i32
  let c128_i32_101 : BitVec 32 := 128#32
  let v287 : BitVec 32 := Scalar.muli v286 c128_i32_101
  v287
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c9_i32 : BitVec 32 := 9#32
  let v1 : BitVec 32 := Scalar.minsi v0 c9_i32
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c9_i32 : BitVec 32 := 9#32
  let v1 : BitVec 32 := Scalar.minsi v0 c9_i32
  let c0_i32 : BitVec 32 := 0#32
  let c0_i32_0 : BitVec 32 := 0#32
  ![c0_i32.toNat, v1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c9_i32 : BitVec 32 := 9#32
  let v1 : BitVec 32 := Scalar.minsi v0 c9_i32
  let c0_i32 : BitVec 32 := 0#32
  let c0_i32_0 : BitVec 32 := 0#32
  ![c0_i32.toNat, v1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x8960 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4480x512 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S70x512 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S70x512 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S4480x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S70x512 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S70x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S4x1536x8960 : Shape := ⟨3, ![4, 1536, 8960]⟩
abbrev S4x1536 : Shape := ⟨2, ![4, 1536]⟩
abbrev S4480x5120 : Shape := ⟨2, ![4480, 5120]⟩
abbrev S70x5120 : Shape := ⟨2, ![70, 5120]⟩
abbrev S5120 : Shape := ⟨1, ![5120]⟩
abbrev S_ : Shape := ⟨0, ![]⟩
abbrev S35x5120 : Shape := ⟨2, ![35, 5120]⟩
abbrev S35x128x5120 : Shape := ⟨3, ![35, 128, 5120]⟩
abbrev S35x1x5120 : Shape := ⟨3, ![35, 1, 5120]⟩
abbrev S4x1536x4480 : Shape := ⟨3, ![4, 1536, 4480]⟩
abbrev S4x1536x5120 : Shape := ⟨3, ![4, 1536, 5120]⟩
abbrev S4x1536x1 : Shape := ⟨3, ![4, 1536, 1]⟩
abbrev S1x1x5120 : Shape := ⟨3, ![1, 1, 5120]⟩

abbrev nBuf : Space → Nat
  | .hbm => 64
  | .vmem => 0
  | .smem => 0
  | _ => 0

abbrev bufTy : (tb : Table) → Fin (tcTables nBuf tb) → BufTy
  | .hbm, ⟨0, _⟩ => ⟨S4x1536x8960, .i8⟩
  | .hbm, ⟨1, _⟩ => ⟨S4x1536, .f32⟩
  | .hbm, ⟨2, _⟩ => ⟨S4480x5120, .i8⟩
  | .hbm, ⟨3, _⟩ => ⟨S70x5120, .i8⟩
  | .hbm, ⟨4, _⟩ => ⟨S70x5120, .i8⟩
  | .hbm, ⟨5, _⟩ => ⟨S5120, .f32⟩
  | .hbm, ⟨6, _⟩ => ⟨S4480x5120, .i32⟩
  | .hbm, ⟨7, _⟩ => ⟨S_, .i32⟩
  | .hbm, ⟨8, _⟩ => ⟨S4480x5120, .i32⟩
  | .hbm, ⟨9, _⟩ => ⟨S4480x5120, .i32⟩
  | .hbm, ⟨10, _⟩ => ⟨S_, .i32⟩
  | .hbm, ⟨11, _⟩ => ⟨S4480x5120, .i32⟩
  | .hbm, ⟨12, _⟩ => ⟨S4480x5120, .i32⟩
  | .hbm, ⟨13, _⟩ => ⟨S35x5120, .i8⟩
  | .hbm, ⟨14, _⟩ => ⟨S35x5120, .i8⟩
  | .hbm, ⟨15, _⟩ => ⟨S4480x5120, .f32⟩
  | .hbm, ⟨16, _⟩ => ⟨S4480x5120, .bf16⟩
  | .hbm, ⟨17, _⟩ => ⟨S35x128x5120, .bf16⟩
  | .hbm, ⟨18, _⟩ => ⟨S35x5120, .i32⟩
  | .hbm, ⟨19, _⟩ => ⟨S35x5120, .f32⟩
  | .hbm, ⟨20, _⟩ => ⟨S35x5120, .bf16⟩
  | .hbm, ⟨21, _⟩ => ⟨S35x1x5120, .bf16⟩
  | .hbm, ⟨22, _⟩ => ⟨S35x5120, .i32⟩
  | .hbm, ⟨23, _⟩ => ⟨S35x5120, .f32⟩
  | .hbm, ⟨24, _⟩ => ⟨S35x5120, .bf16⟩
  | .hbm, ⟨25, _⟩ => ⟨S35x1x5120, .bf16⟩
  | .hbm, ⟨26, _⟩ => ⟨S35x128x5120, .bf16⟩
  | .hbm, ⟨27, _⟩ => ⟨S35x128x5120, .bf16⟩
  | .hbm, ⟨28, _⟩ => ⟨S35x128x5120, .bf16⟩
  | .hbm, ⟨29, _⟩ => ⟨S35x128x5120, .bf16⟩
  | .hbm, ⟨30, _⟩ => ⟨S4480x5120, .bf16⟩
  | .hbm, ⟨31, _⟩ => ⟨S35x5120, .i8⟩
  | .hbm, ⟨32, _⟩ => ⟨S35x5120, .i8⟩
  | .hbm, ⟨33, _⟩ => ⟨S4480x5120, .f32⟩
  | .hbm, ⟨34, _⟩ => ⟨S4480x5120, .bf16⟩
  | .hbm, ⟨35, _⟩ => ⟨S35x128x5120, .bf16⟩
  | .hbm, ⟨36, _⟩ => ⟨S35x5120, .i32⟩
  | .hbm, ⟨37, _⟩ => ⟨S35x5120, .f32⟩
  | .hbm, ⟨38, _⟩ => ⟨S35x5120, .bf16⟩
  | .hbm, ⟨39, _⟩ => ⟨S35x1x5120, .bf16⟩
  | .hbm, ⟨40, _⟩ => ⟨S35x5120, .i32⟩
  | .hbm, ⟨41, _⟩ => ⟨S35x5120, .f32⟩
  | .hbm, ⟨42, _⟩ => ⟨S35x5120, .bf16⟩
  | .hbm, ⟨43, _⟩ => ⟨S35x1x5120, .bf16⟩
  | .hbm, ⟨44, _⟩ => ⟨S35x128x5120, .bf16⟩
  | .hbm, ⟨45, _⟩ => ⟨S35x128x5120, .bf16⟩
  | .hbm, ⟨46, _⟩ => ⟨S35x128x5120, .bf16⟩
  | .hbm, ⟨47, _⟩ => ⟨S35x128x5120, .bf16⟩
  | .hbm, ⟨48, _⟩ => ⟨S4480x5120, .bf16⟩
  | .hbm, ⟨49, _⟩ => ⟨S4x1536x8960, .i32⟩
  | .hbm, ⟨50, _⟩ => ⟨S4x1536x8960, .f32⟩
  | .hbm, ⟨51, _⟩ => ⟨S4x1536x8960, .bf16⟩
  | .hbm, ⟨52, _⟩ => ⟨S4x1536x4480, .bf16⟩
  | .hbm, ⟨53, _⟩ => ⟨S4x1536x5120, .f32⟩
  | .hbm, ⟨54, _⟩ => ⟨S4x1536x4480, .bf16⟩
  | .hbm, ⟨55, _⟩ => ⟨S4x1536x5120, .f32⟩
  | .hbm, ⟨56, _⟩ => ⟨S4x1536x5120, .f32⟩
  | .hbm, ⟨57, _⟩ => ⟨S4x1536x1, .f32⟩
  | .hbm, ⟨58, _⟩ => ⟨S4x1536x5120, .f32⟩
  | .hbm, ⟨59, _⟩ => ⟨S4x1536x5120, .f32⟩
  | .hbm, ⟨60, _⟩ => ⟨S1x1x5120, .f32⟩
  | .hbm, ⟨61, _⟩ => ⟨S4x1536x5120, .f32⟩
  | .hbm, ⟨62, _⟩ => ⟨S4x1536x5120, .f32⟩
  | .hbm, ⟨63, _⟩ => ⟨S4x1536x5120, .bf16⟩
  | _, _ => ⟨S4x1536x8960, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩

abbrev nD : Nat := 1
abbrev τ : Topo := Topo.v7x

variable {F : FTy → Type} [FloatOps F]
-- ==== Proof.Cases.lean ====
/- What the runs of the ideal kernel's body are stated over: the conditions of its branches in closed form over the
   grid points, the memrefs of its windows and of its scratch, and the invariant's resource in terms of them. -/
module

public import proofs.«01_k».proof.Proof.Gen.KernelIdeal.Frame
public import proofs.«01_k».proof.Proof.Gen.KernelIdeal.Skeleton
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 60 = 0 :=
  (fun t => by
    have ht : t.val < 60 := Nat.lt_of_lt_of_eq t.isLt N_0
    have e0 : (grid0.coords t 0).val = t.val / 6 % 10 := Pipeline.Grid.coords_val t 0 (by decide) rfl
    have e1 : (grid0.coords t 1).val = t.val / 1 % 6 := Pipeline.Grid.coords_val t 1 (by decide) rfl
    simp only [cond0_0, k0_cond1, e0, e1]
    word_cmp
   : ∀ t : Fin grid0.N, cond0_0 (grid0.coords t) ↔ t.val % 60 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 1).val) 0#32)) 0#32) = 1#1
/-- It holds at the points ≡ 0 (mod 6) — by arithmetic of the point. -/
theorem hcond0_1 : ∀ t : Fin cfg0.N, cond0_1 (grid0.coords t) ↔ t.val % 6 = 0 :=
  (fun t => by
    have ht : t.val < 60 := Nat.lt_of_lt_of_eq t.isLt N_0
    have e0 : (grid0.coords t 0).val = t.val / 6 % 10 := Pipeline.Grid.coords_val t 0 (by decide) rfl
    have e1 : (grid0.coords t 1).val = t.val / 1 % 6 := Pipeline.Grid.coords_val t 1 (by decide) rfl
    simp only [cond0_1, e0, e1]
    word_cmp
   : ∀ t : Fin grid0.N, cond0_1 (grid0.coords t) ↔ t.val % 6 = 0)

/-- The condition of the body's `scf.if` 2 (`k0_h3`), from the grid coordinates (the skeleton's scalar
    chain substituted). -/
abbrev cond0_2 (i : grid0.Coords) : Prop := k0_cond3 i = 1#1
/-- It holds at the points ≡ 0, 1, 2, 3, 4 or 5 (mod 12) — decided over the grid. -/
theorem hcond0_2 : ∀ t : Fin cfg0.N, cond0_2 (grid0.coords t) ↔ (t.val % 12 = 0 ∨ t.val % 12 = 1 ∨ t.val % 12 = 2 ∨ t.val % 12 = 3 ∨ t.val % 12 = 4 ∨ t.val % 12 = 5) :=
  (by decide +kernel : ∀ t : Fin grid0.N, cond0_2 (grid0.coords t) ↔ (t.val % 12 = 0 ∨ t.val % 12 = 1 ∨ t.val % 12 = 2 ∨ t.val % 12 = 3 ∨ t.val % 12 = 4 ∨ t.val % 12 = 5))

/-- The condition of the body's `scf.if` 3 (`k0_h4`), from the grid coordinates (the skeleton's scalar
    chain substituted). -/
abbrev cond0_3 (i : grid0.Coords) : Prop := k0_cond4 i = 1#1
/-- It holds at the points ≡ 6, 7, 8, 9, 10 or 11 (mod 12) — decided over the grid. -/
theorem hcond0_3 : ∀ t : Fin cfg0.N, cond0_3 (grid0.coords t) ↔ (t.val % 12 = 6 ∨ t.val % 12 = 7 ∨ t.val % 12 = 8 ∨ t.val % 12 = 9 ∨ t.val % 12 = 10 ∨ t.val % 12 = 11) :=
  (by decide +kernel : ∀ t : Fin grid0.N, cond0_3 (grid0.coords t) ↔ (t.val % 12 = 6 ∨ t.val % 12 = 7 ∨ t.val % 12 = 8 ∨ t.val % 12 = 9 ∨ t.val % 12 = 10 ∨ t.val % 12 = 11))

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x8960 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4480x512 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S70x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S70x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4480x512 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S70x512 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S70x512 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x512 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S8960x512 .bf16 := Memref.whole cc0_scratch0
abbrev scM0_1 : Memref sig .tc .vmem S8960x512 .bf16 := Memref.whole cc0_scratch1
abbrev scM0_2 : Memref sig .tc .vmem S70x512 .f32 := Memref.whole cc0_scratch2
abbrev scM0_3 : Memref sig .tc .vmem S70x512 .f32 := Memref.whole cc0_scratch3
/-- The scratch `arg14` the kernel carries between points, as a view: what it holds is stated through it. -/
abbrev VS0_2 : View sig .tc .vmem S70x512 .f32 := scM0_2.view
/-- The scratch `arg15` the kernel carries between points, as a view: what it holds is stated through it. -/
abbrev VS0_3 : View sig .tc .vmem S70x512 .f32 := scM0_3.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Hand

end
-- ==== Proof.Tile.lean ====
/- The tiles of dequantised weights the kernel's body stores: what one tile's payload is, element by element, and what a
   buffer reads after a list of such tiles is stored. -/
module

public import proofs.«01_k».proof.Proof.Cases
public import Idealize.ShloMosaic.Lib.Pointwise
public import Idealize.ShloMosaic.Lib.BitcastFour
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## Bits -/

/-- Bit `n` of the mask `0x0F0F0F0F` is set when `n` lies in the low half of its byte. -/
theorem mask_bit (n : ℕ) (h : n < 32) : (252645135#32).getLsbD n = decide (n % 8 < 4) := by
  interval_cases n <;> rfl

/-- Bit `n` of the mask `0x0F` is set when `n < 4`. -/
theorem mask8_bit (n : ℕ) (h : n < 8) : (15#8).getLsbD n = decide (n < 4) := by
  interval_cases n <;> rfl

theorem row_ix2 (r : Fin 128) (l : Fin 512) : S128x512.row (ix2 r l) = r.val := rfl

/-- Four rows of bytes read as words, changed word by word, and read as bytes again: bit `q` of the byte at row `r` is bit
    `8 (r % 4) + q` of the changed word at row `r / 4`. -/
theorem back_bit (w : IVec S32x512 32) (r : Fin 128) (l : Fin 512) (q : ℕ) (hq : q < 8) :
    (bitcast S128x512 8 w bitcasts_S32x512_w32_S128x512_w8 (ix2 r l)).getLsbD q
      = (w (ix2 (⟨r.val / 4, by omega⟩ : Fin 32) l)).getLsbD (8 * (r.val % 4) + q) := by
  rw [bitcast_getLsbD w bitcasts_S32x512_w32_S128x512_w8 (ix2 r l) q hq (by decide)]
  have ep : (S128x512.row (ix2 r l) * 8 + q) / 32 = r.val / 4 := by rw [row_ix2]; omega
  have eq : (S128x512.row (ix2 r l) * 8 + q) % 32 = 8 * (r.val % 4) + q := by rw [row_ix2]; omega
  rw [eq]
  congr 2
  funext c
  match c with
  | ⟨0, _⟩ => exact Fin.ext ((Shape.Bitcasts.srcIdx_row bitcasts_S32x512_w32_S128x512_w8 _ _ _ ⟨0, Nat.zero_lt_two⟩ rfl).trans ep)
  | ⟨1, _⟩ => exact Fin.ext (Shape.Bitcasts.srcIdx_other bitcasts_S32x512_w32_S128x512_w8 _ _ _ ⟨1, Nat.one_lt_two⟩ (by show ¬ 1 + 2 = 2; omega))

/-- Bit `n` of the word at row `a` is bit `n % 8` of the byte at row `4 a + n / 8`. -/
theorem word_bit (p : IVec S128x512 8) (a : Fin 32) (l : Fin 512) (n : ℕ) (hn : n < 32) (r : Fin 128) (hr : r.val = 4 * a.val + n / 8) :
    (bitcast S32x512 32 p bitcasts_S128x512_w8_S32x512_w32 (ix2 a l)).getLsbD n = (p (ix2 r l)).getLsbD (n % 8) := by
  rw [bitcast_8_32_getLsbD p bitcasts_S128x512_w8_S32x512_w32 _ n hn]
  congr 2
  funext c
  match c with
  | ⟨0, _⟩ => exact Fin.ext ((Shape.Bitcasts.srcIdx_row bitcasts_S128x512_w8_S32x512_w32 _ _ _ ⟨0, Nat.zero_lt_two⟩ rfl).trans hr.symm)
  | ⟨1, _⟩ => exact Fin.ext (Shape.Bitcasts.srcIdx_other bitcasts_S128x512_w8_S32x512_w32 _ _ _ ⟨1, Nat.one_lt_two⟩ (by show ¬ 1 + 2 = 2; omega))

/-- The low nibbles, taken four bytes at a time, are the bytes' low nibbles. -/
theorem nib_lo (p : IVec S128x512 8) (r : Fin 128) (l : Fin 512) :
    bitcast S128x512 8 (andi (bitcast S32x512 32 p bitcasts_S128x512_w8_S32x512_w32) (broadcast S32x512 252645135#32))
        bitcasts_S32x512_w32_S128x512_w8 (ix2 r l) = p (ix2 r l) &&& 15#8 := by
  apply BitVec.eq_of_getLsbD_eq
  intro q hq
  rw [back_bit _ r l q hq]
  show (bitcast S32x512 32 p bitcasts_S128x512_w8_S32x512_w32 (ix2 (⟨r.val / 4, by omega⟩ : Fin 32) l)
    &&& 252645135#32).getLsbD _ = _
  rw [BitVec.getLsbD_and, BitVec.getLsbD_and, mask_bit _ (by omega), mask8_bit _ hq,
    word_bit p _ l _ (by omega) r (by show r.val = 4 * (r.val / 4) + _; omega),
    show (8 * (r.val % 4) + q) % 8 = q by omega]

/-- The high nibbles, taken four bytes at a time, are the bytes' high nibbles. -/
theorem nib_hi (p : IVec S128x512 8) (r : Fin 128) (l : Fin 512) :
    bitcast S128x512 8 (andi (shrui (bitcast S32x512 32 p bitcasts_S128x512_w8_S32x512_w32) (broadcast S32x512 4#32))
        (broadcast S32x512 252645135#32)) bitcasts_S32x512_w32_S128x512_w8 (ix2 r l) = p (ix2 r l) >>> 4 := by
  apply BitVec.eq_of_getLsbD_eq
  intro q hq
  rw [back_bit _ r l q hq]
  show ((bitcast S32x512 32 p bitcasts_S128x512_w8_S32x512_w32 (ix2 (⟨r.val / 4, by omega⟩ : Fin 32) l)) >>> (4#32)
    &&& 252645135#32).getLsbD _ = _
  rw [BitVec.getLsbD_and, mask_bit _ (by omega), BitVec.getLsbD_ushiftRight, BitVec.ushiftRight_eq', BitVec.getLsbD_ushiftRight,
    show (8 * (r.val % 4) + q) % 8 = q by omega, show (4#32).toNat = 4 from rfl]
  by_cases h : q < 4
  · rw [word_bit p _ l _ (by omega) r (by show r.val = 4 * (r.val / 4) + _; omega),
      show (4 + (8 * (r.val % 4) + q)) % 8 = 4 + q by omega]
    simp [h]
  · rw [BitVec.getLsbD_of_ge (p (ix2 r l)) (4 + q) (by omega)]
    simp [h]

/-! ## One tile -/

/-- One dequantised weight: code times scale minus scaled zero point, in bfloat16. -/
def dqs (b : BitVec 8) (s z : F .f32) : F .bf16 :=
  FloatOps.subf (FloatOps.mulf (FloatOps.sitofp FTy.bf16 b) (FloatOps.truncf FTy.bf16 bitsLt_bf16_f32 s))
    (FloatOps.truncf FTy.bf16 bitsLt_bf16_f32 z)

/-- The code at row `r` of the unpacked weights: the low nibble of its byte for the first half of the rows, the high nibble for the
    second. -/
def code (p : IVec S4480x512 8) (r : Fin 8960) (l : Fin 512) : BitVec 8 :=
  if r.val < 4480 then p (ix2 (⟨r.val % 4480, by omega⟩ : Fin 4480) l) &&& 15#8
  else p (ix2 (⟨r.val % 4480, by omega⟩ : Fin 4480) l) >>> 4

/-- The whole dequantised block of weights, from its packed bytes, its scales and its scaled zero points. -/
def wdeq (p : Vec F S4480x512 .i8) (s z : Vec F S70x512 .f32) : Vec F S8960x512 .bf16 := fun y =>
  have y0 : Fin 8960 := y 0
  have y1 : Fin 512 := y 1
  dqs (code p y0 y1) (s (ix2 (⟨y0.val / 128, by omega⟩ : Fin 70) y1)) (z (ix2 (⟨y0.val / 128, by omega⟩ : Fin 70) y1))

theorem wdeq_ix2 (p : Vec F S4480x512 .i8) (s z : Vec F S70x512 .f32) (r : Fin 8960) (l : Fin 512) :
    wdeq p s z (ix2 r l) = dqs (code p r l) (s (ix2 (⟨r.val / 128, by omega⟩ : Fin 70) l)) (z (ix2 (⟨r.val / 128, by omega⟩ : Fin 70) l)) := rfl

theorem lo_apply (p : Vec F S128x512 .i8) (s z : Vec F S1x512 .f32) (r : Fin 128) (l : Fin 512) :
    k0_pay4 p s z (ix2 r l) = dqs (p (ix2 r l) &&& 15#8) (s (ix2 0 l)) (z (ix2 0 l)) := by
  pointwise [k0_pay4, k0_pay3]
  rw [nib_lo]
  rfl

theorem hi_apply (p : Vec F S128x512 .i8) (s z : Vec F S1x512 .f32) (r : Fin 128) (l : Fin 512) :
    k0_pay65 (k0_pay5 p) (k0_pay6 s) z (ix2 r l) = dqs (p (ix2 r l) >>> 4) (s (ix2 0 l)) (z (ix2 0 l)) := by
  pointwise [k0_pay65, k0_pay5, k0_pay6, k0_pay3]
  rw [nib_hi]
  rfl

/-! ## Lists of tiles -/

/-- The piece is the 128 rows of `W` from row `o` on. -/
def TileAt (W : Vec F S8960x512 .bf16) (p : View.Piece (Elt F) S8960x512 .bf16) (o : ℕ) : Prop :=
  (∀ y : S8960x512.Idx, y ∈ p.1.set ↔ o ≤ (y 0).val ∧ (y 0).val < o + 128) ∧ ∀ x, p.2 x = W (p.1.emb x)

/-- After tiles of `W` are stored, a row that some tile holds, or that held `W` before, holds `W`. -/
theorem read_tiles {sig : RefSig} {κ : Kind} {sp : Space} (v : View sig κ sp S8960x512 .bf16) (W : Vec F S8960x512 .bf16)
    (f : v.ty.Contents (Elt F)) (y : S8960x512.Idx) (L : List (View.Piece (Elt F) S8960x512 .bf16)) (O : List ℕ)
    (h : List.Forall₂ (TileAt W) L O)
    (hy : v.read (Elt F) f y = W y ∨ ∃ o ∈ O, o ≤ (y 0).val ∧ (y 0).val < o + 128) :
    v.read (Elt F) (v.writes (Elt F) f L) y = W y := by
  induction h with
  | nil =>
    rcases hy with hy | ⟨o, ho, _⟩
    · exact hy
    · simp at ho
  | @cons p o L O hp _ ih =>
    by_cases hm : y ∈ p.1.set
    · obtain ⟨x, rfl⟩ : ∃ x, p.1.emb x = y := by
        rw [← Rect.map_emb_univ] at hm
        obtain ⟨x, -, hx⟩ := Finset.mem_map.1 hm
        exact ⟨x, hx⟩
      exact (View.read_writes_cons_emb v f p.1 p.2 L x).trans (hp.2 x)
    · have hn : y ∉ Finset.univ.map p.1.emb := by rw [Rect.map_emb_univ]; exact hm
      have e : v.read (Elt F) (v.writes (Elt F) f (p :: L)) y = v.read (Elt F) (v.writes (Elt F) f L) y := by
        rw [View.writes_cons]; exact View.read_slice_write_of_not_mem _ _ _ _ hn
      rw [e]
      refine ih ?_
      rcases hy with hy | ⟨o', ho, hr⟩
      · exact .inl hy
      · rcases List.mem_cons.1 ho with rfl | ho
        · exact absurd ((hp.1 y).2 hr) hm
        · exact .inr ⟨o', ho, hr⟩

/-- A load of a rectangle of a memref that holds `X`, read at `x`, is `X` at the offsets plus `x`. -/
theorem rd_unit {sig : RefSig} {κ : Kind} {sp : Space} {s : Shape} {e : EltTy} {M : Memref sig κ sp s e}
    {f : M.view.ty.Contents (Elt F)} {X : s.Idx → Elt F e} (hf : M.view.read (Elt F) f = X) {off off' size : Fin s.rank → ℕ} (inb : ∀ a, off a + size a ≤ s.size a)
    (x : (Rect.unit off size inb).shape.Idx) (y : s.Idx) (ho : off = off') (h : ∀ a, (y a).val = off' a + (x a).val) :
    M.view.readAt (Elt F) (Rect.unit off size inb).toLoadRect f x = X y := by
  subst ho
  rw [View.readAt_apply, hf]
  congr 1
  funext a
  refine Fin.ext ?_
  show off a + 1 * (x a).val = (y a).val
  rw [h a, Nat.one_mul]

/-- A load of the whole memref is what it holds. -/
theorem rd_full {sig : RefSig} {κ : Kind} {sp : Space} {s : Shape} {e : EltTy} {M : Memref sig κ sp s e} (hM : M.IsWhole)
    (X : s.Idx → Elt F e) {off : Fin s.rank → ℕ} (inb : ∀ a, off a + s.size a ≤ s.size a) (ho : off = fun _ => 0) :
    M.view.readAt (Elt F) (Rect.unit off s.size inb).toLoadRect (hM.unread X) = X :=
  funext fun x => rd_unit (hM.read_unread X) inb x x ho fun a => (Nat.zero_add _).symm

section
variable {sg : RefSig} {κ : Kind} {sp sp' : Space} {M8 : Memref sg κ sp S4480x512 .i8} {M14 M15 : Memref sg κ sp' S70x512 .f32}
  {f8 : M8.view.ty.Contents (Elt F)} {f14 : M14.view.ty.Contents (Elt F)} {f15 : M15.view.ty.Contents (Elt F)}
  {p : Vec F S4480x512 .i8} {s z : Vec F S70x512 .f32} (h8 : M8.view.read (Elt F) f8 = p)
  (h14 : M14.view.read (Elt F) f14 = s) (h15 : M15.view.read (Elt F) f15 = z)
  {o4 o5 o5' o6 : Fin 2 → ℕ} (i4 : ∀ a, o4 a + S128x512.size a ≤ S4480x512.size a)
  (i5 : ∀ a, o5 a + S1x512.size a ≤ S70x512.size a) (i5' : ∀ a, o5' a + S1x512.size a ≤ S70x512.size a)
  (i6 : ∀ a, o6 a + S128x512.size a ≤ S8960x512.size a)

/-- A rectangle of 128 rows from row `o` on holds the indices of those rows. -/
theorem mem_rows (o : ℕ) (e6 : o6 = ![o, 0]) (y : S8960x512.Idx) :
    y ∈ (Rect.unit (s := S8960x512) o6 S128x512.size i6).set ↔ o ≤ (y 0).val ∧ (y 0).val < o + 128 := by
  subst e6
  rw [Rect.mem_set_unit]
  constructor
  · intro h; exact h 0
  · intro h a
    match a with
    | ⟨0, _⟩ => exact h
    | ⟨1, _⟩ => exact ⟨Nat.zero_le _, by show (y 1).val < 0 + 512; have : (y 1).val < 512 := (y 1).isLt; omega⟩

include h8 h14 h15 in
/-- The tile of low nibbles of group `g`. -/
theorem lo_tile (g : ℕ) (hg : g < 35) (e4 : o4 = ![128 * g, 0]) (e5 : o5 = ![g, 0]) (e5' : o5' = ![g, 0]) (e6 : o6 = ![128 * g, 0]) :
    TileAt (wdeq p s z) ⟨Rect.unit (s := S8960x512) o6 S128x512.size i6,
      k0_pay4 (M8.view.readAt (Elt F) (Rect.unit (s := S4480x512) o4 S128x512.size i4).toLoadRect f8)
        (M14.view.readAt (Elt F) (Rect.unit (s := S70x512) o5 S1x512.size i5).toLoadRect f14)
        (M15.view.readAt (Elt F) (Rect.unit (s := S70x512) o5' S1x512.size i5').toLoadRect f15)⟩ (128 * g) := by
  refine ⟨fun y => mem_rows i6 _ e6 y, fun x => ?_⟩
  obtain ⟨r, l, rfl⟩ : ∃ (r : Fin 128) (l : Fin 512), x = ix2 r l := ⟨x 0, x 1, eq_ix2 x⟩
  have ex : (Rect.unit (s := S8960x512) o6 S128x512.size i6).emb (ix2 r l) = ix2 (⟨128 * g + r.val, by omega⟩ : Fin 8960) l := by
    subst e6
    funext a
    match a with
    | ⟨0, _⟩ => exact Fin.ext (show 128 * g + 1 * r.val = 128 * g + r.val by omega)
    | ⟨1, _⟩ => exact Fin.ext (show 0 + 1 * l.val = l.val by omega)
  refine (lo_apply _ _ _ r l).trans ?_
  rw [ex, wdeq_ix2]
  rw [rd_unit h8 i4 (ix2 r l) (ix2 (⟨128 * g + r.val, by omega⟩ : Fin 4480) l) e4
      (Fin.forall_fin_two.mpr ⟨rfl, (Nat.zero_add _).symm⟩),
    rd_unit h14 i5 (ix2 0 l) (ix2 (⟨g, by omega⟩ : Fin 70) l) e5 (Fin.forall_fin_two.mpr ⟨rfl, (Nat.zero_add _).symm⟩),
    rd_unit h15 i5' (ix2 0 l) (ix2 (⟨g, by omega⟩ : Fin 70) l) e5' (Fin.forall_fin_two.mpr ⟨rfl, (Nat.zero_add _).symm⟩)]
  have c : code p (⟨128 * g + r.val, by omega⟩ : Fin 8960) l = p (ix2 (⟨128 * g + r.val, by omega⟩ : Fin 4480) l) &&& 15#8 := by
    unfold code
    rw [if_pos (by show 128 * g + r.val < 4480; omega)]
    exact congrArg (fun q : Fin 4480 => p (ix2 q l) &&& 15#8) (Fin.ext (show (128 * g + r.val) % 4480 = 128 * g + r.val by omega))
  rw [c]
  have eg : (⟨(128 * g + r.val) / 128, by omega⟩ : Fin 70) = ⟨g, by omega⟩ := Fin.ext (by show (128 * g + r.val) / 128 = g; omega)
  rw [eg]

include h8 h14 h15 in
/-- The tile of high nibbles of group `g`, whose scales are those of group `35 + g`. -/
theorem hi_tile (g : ℕ) (hg : g < 35) (e4 : o4 = ![128 * g, 0]) (e5 : o5 = ![g + 35, 0]) (e5' : o5' = ![g + 35, 0])
    (e6 : o6 = ![128 * g + 4480, 0]) :
    TileAt (wdeq p s z) ⟨Rect.unit (s := S8960x512) o6 S128x512.size i6,
      k0_pay65 (k0_pay5 (M8.view.readAt (Elt F) (Rect.unit (s := S4480x512) o4 S128x512.size i4).toLoadRect f8))
        (k0_pay6 (M14.view.readAt (Elt F) (Rect.unit (s := S70x512) o5 S1x512.size i5).toLoadRect f14))
        (M15.view.readAt (Elt F) (Rect.unit (s := S70x512) o5' S1x512.size i5').toLoadRect f15)⟩ (128 * g + 4480) := by
  refine ⟨fun y => mem_rows i6 _ e6 y, fun x => ?_⟩
  obtain ⟨r, l, rfl⟩ : ∃ (r : Fin 128) (l : Fin 512), x = ix2 r l := ⟨x 0, x 1, eq_ix2 x⟩
  have ex : (Rect.unit (s := S8960x512) o6 S128x512.size i6).emb (ix2 r l) = ix2 (⟨128 * g + 4480 + r.val, by omega⟩ : Fin 8960) l := by
    subst e6
    funext a
    match a with
    | ⟨0, _⟩ => exact Fin.ext (show 128 * g + 4480 + 1 * r.val = 128 * g + 4480 + r.val by omega)
    | ⟨1, _⟩ => exact Fin.ext (show 0 + 1 * l.val = l.val by omega)
  refine (hi_apply _ _ _ r l).trans ?_
  rw [ex, wdeq_ix2]
  rw [rd_unit h8 i4 (ix2 r l) (ix2 (⟨128 * g + r.val, by omega⟩ : Fin 4480) l) e4
      (Fin.forall_fin_two.mpr ⟨rfl, (Nat.zero_add _).symm⟩),
    rd_unit h14 i5 (ix2 0 l) (ix2 (⟨g + 35, by omega⟩ : Fin 70) l) e5 (Fin.forall_fin_two.mpr ⟨rfl, (Nat.zero_add _).symm⟩),
    rd_unit h15 i5' (ix2 0 l) (ix2 (⟨g + 35, by omega⟩ : Fin 70) l) e5' (Fin.forall_fin_two.mpr ⟨rfl, (Nat.zero_add _).symm⟩)]
  have c : code p (⟨128 * g + 4480 + r.val, by omega⟩ : Fin 8960) l = p (ix2 (⟨128 * g + r.val, by omega⟩ : Fin 4480) l) >>> 4 := by
    unfold code
    rw [if_neg (by show ¬ 128 * g + 4480 + r.val < 4480; omega)]
    exact congrArg (fun q : Fin 4480 => p (ix2 q l) >>> 4) (Fin.ext (show (128 * g + 4480 + r.val) % 4480 = 128 * g + r.val by omega))
  rw [c]
  have eg : (⟨(128 * g + 4480 + r.val) / 128, by omega⟩ : Fin 70) = ⟨g + 35, by omega⟩ :=
    Fin.ext (by show (128 * g + 4480 + r.val) / 128 = g + 35; omega)
  rw [eg]

end

/-! ## The tiles' offsets in closed form -/

/-- The first of the six groups a point dequantises. -/
abbrev g0 (i : grid0.Coords) : ℕ := min (6 * (i 1).val) 29

theorem g0_lt (i : grid0.Coords) (k : Fin 6) : g0 i + k.val < 35 := by unfold g0; omega

theorem off4_eq (i : grid0.Coords) (k : Fin 6) : k0_off4 i (BitVec.ofNat 32 k.val) = ![128 * (g0 i + k.val), 0] := by
  unfold k0_off4 g0
  generalize i 1 = mm
  revert mm k
  decide +kernel

theorem off5_eq (i : grid0.Coords) (k : Fin 6) : k0_off5 i (BitVec.ofNat 32 k.val) 0#32 = ![g0 i + k.val, 0] := by
  unfold k0_off5 g0
  generalize i 1 = mm
  revert mm k
  decide +kernel

theorem off5_eq' (i : grid0.Coords) (k : Fin 6) : k0_off5 i (BitVec.ofNat 32 k.val) 35#32 = ![g0 i + k.val + 35, 0] := by
  unfold k0_off5 g0
  generalize i 1 = mm
  revert mm k
  decide +kernel

theorem off6_eq (i : grid0.Coords) (k : Fin 6) : k0_off6 i (BitVec.ofNat 32 k.val) 0#32 = ![128 * (g0 i + k.val), 0] := by
  unfold k0_off6 g0
  generalize i 1 = mm
  revert mm k
  decide +kernel

theorem off6_eq' (i : grid0.Coords) (k : Fin 6) : k0_off6 i (BitVec.ofNat 32 k.val) 4480#32 = ![128 * (g0 i + k.val) + 4480, 0] := by
  unfold k0_off6 g0
  generalize i 1 = mm
  revert mm k
  decide +kernel

theorem off7_eq (i : grid0.Coords) (k : Fin 6) : k0_off7 i (BitVec.ofNat 32 k.val) = ![128 * (g0 i + k.val), 0] := off4_eq i k
theorem off8_eq (i : grid0.Coords) (k : Fin 6) : k0_off8 i (BitVec.ofNat 32 k.val) 0#32 = ![g0 i + k.val, 0] := off5_eq i k
theorem off8_eq' (i : grid0.Coords) (k : Fin 6) : k0_off8 i (BitVec.ofNat 32 k.val) 35#32 = ![g0 i + k.val + 35, 0] := off5_eq' i k
theorem off9_eq (i : grid0.Coords) (k : Fin 6) : k0_off9 i (BitVec.ofNat 32 k.val) 0#32 = ![128 * (g0 i + k.val), 0] := off6_eq i k
theorem off9_eq' (i : grid0.Coords) (k : Fin 6) : k0_off9 i (BitVec.ofNat 32 k.val) 4480#32 = ![128 * (g0 i + k.val) + 4480, 0] :=
  off6_eq' i k

/-- The first rows of the twelve tiles a point stores, last stored first. -/
def offs (g : ℕ) : List ℕ :=
  [128 * (g + 5) + 4480, 128 * (g + 5), 128 * (g + 4) + 4480, 128 * (g + 4), 128 * (g + 3) + 4480, 128 * (g + 3),
   128 * (g + 2) + 4480, 128 * (g + 2), 128 * (g + 1) + 4480, 128 * (g + 1), 128 * (g + 0) + 4480, 128 * (g + 0)]

/-- They hold the rows of six groups in each half. -/
theorem mem_offs (g : ℕ) (hg : g ≤ 29) (r : ℕ) (h : (128 * g ≤ r ∧ r < 128 * (g + 6)) ∨ (128 * g + 4480 ≤ r ∧ r < 128 * (g + 6) + 4480)) :
    ∃ o ∈ offs g, o ≤ r ∧ r < o + 128 := by
  simp only [offs, List.mem_cons, List.not_mem_nil, or_false, exists_eq_or_imp, exists_eq_left]
  omega

/-! ## The tiles at a point, the even and the odd points' offsets -/

section
variable {sg : RefSig} {κ : Kind} {sp sp' : Space} {M8 : Memref sg κ sp S4480x512 .i8} {M14 M15 : Memref sg κ sp' S70x512 .f32}
  {f8 : M8.view.ty.Contents (Elt F)} {f14 : M14.view.ty.Contents (Elt F)} {f15 : M15.view.ty.Contents (Elt F)}
  {p : Vec F S4480x512 .i8} {s z : Vec F S70x512 .f32} (h8 : M8.view.read (Elt F) f8 = p)
  (h14 : M14.view.read (Elt F) f14 = s) (h15 : M15.view.read (Elt F) f15 = z) (i : grid0.Coords) (k : Fin 6)

include h8 h14 h15

theorem loE {i4 i5 i5' i6} :
    TileAt (wdeq p s z) ⟨Rect.unit (s := S8960x512) (k0_off6 i (BitVec.ofNat 32 k.val) 0#32) S128x512.size i6,
      k0_pay4 (M8.view.readAt (Elt F) (Rect.unit (s := S4480x512) (k0_off4 i (BitVec.ofNat 32 k.val)) S128x512.size i4).toLoadRect f8)
        (M14.view.readAt (Elt F) (Rect.unit (s := S70x512) (k0_off5 i (BitVec.ofNat 32 k.val) 0#32) S1x512.size i5).toLoadRect f14)
        (M15.view.readAt (Elt F) (Rect.unit (s := S70x512) (k0_off5 i (BitVec.ofNat 32 k.val) 0#32) S1x512.size i5').toLoadRect f15)⟩
      (128 * (g0 i + k.val)) :=
  lo_tile h8 h14 h15 i4 i5 i5' i6 _ (g0_lt i k) (off4_eq i k) (off5_eq i k) (off5_eq i k) (off6_eq i k)

theorem hiE {i4 i5 i5' i6} :
    TileAt (wdeq p s z) ⟨Rect.unit (s := S8960x512) (k0_off6 i (BitVec.ofNat 32 k.val) 4480#32) S128x512.size i6,
      k0_pay65 (k0_pay5 (M8.view.readAt (Elt F) (Rect.unit (s := S4480x512) (k0_off4 i (BitVec.ofNat 32 k.val)) S128x512.size i4).toLoadRect f8))
        (k0_pay6 (M14.view.readAt (Elt F) (Rect.unit (s := S70x512) (k0_off5 i (BitVec.ofNat 32 k.val) 35#32) S1x512.size i5).toLoadRect f14))
        (M15.view.readAt (Elt F) (Rect.unit (s := S70x512) (k0_off5 i (BitVec.ofNat 32 k.val) 35#32) S1x512.size i5').toLoadRect f15)⟩
      (128 * (g0 i + k.val) + 4480) :=
  hi_tile h8 h14 h15 i4 i5 i5' i6 _ (g0_lt i k) (off4_eq i k) (off5_eq' i k) (off5_eq' i k) (off6_eq' i k)

end

end Cert.KernelIdeal.Hand

end
-- ==== Proof.RunA.lean ====
/- The ideal kernel's body run in case A: what it leaves in each buffer it stores into. -/
module

public import proofs.«01_k».proof.Proof.Cases

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- One run of the kernel's body in case A, on whole memrefs that hold the named contents: the pieces it stores into
    each buffer, with the proof that the body ends with those pieces written and every other buffer as it was. -/
noncomputable def runA (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole) (hc0 : cond0_0 i) (hc1 : cond0_1 i) (hc2 : cond0_2 i) (hc3 : ¬cond0_3 i)
    (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32) :
    Σ' (L11 : List (View.Piece (Elt F) S1024x512 .bf16)), Σ' (L12 : List (View.Piece (Elt F) S8960x512 .bf16)), Σ' (L13 : List (View.Piece (Elt F) S8960x512 .bf16)), Σ' (L14 : List (View.Piece (Elt F) S70x512 .f32)), { L15 : List (View.Piece (Elt F) S70x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare w0 ∗ owns (c : Thread nD τ) arg13 fullShare w1 ∗ owns (c : Thread nD τ) arg14 fullShare s ∗ owns (c : Thread nD τ) arg15 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread w0) L12) ∗ (arg13.view.loc (c : Thread nD τ) ↦[arg13.view.set]{fullShare} arg13.view.writes (Elt F) (harg13.unread w1) L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, fun E K => ?run⟩
  case run =>
    simp only [cc0_w4a8_linear_eq_skeleton]; unfold cc0_w4a8_linear_skel
    simp only [k0_part16_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexact H12
    isplitl [H13]
    · iexact H13
    isplitl [H14]
    · iexists _; iexact H14
    · iexists _; iexact H15

end Cert.KernelIdeal.Hand

end
-- ==== Proof.RunB.lean ====
/- The ideal kernel's body run in case B: what it leaves in each buffer it stores into. -/
module

public import proofs.«01_k».proof.Proof.Cases

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- One run of the kernel's body in case B, on whole memrefs that hold the named contents: the pieces it stores into
    each buffer, with the proof that the body ends with those pieces written and every other buffer as it was. -/
noncomputable def runB (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole) (hc0 : ¬cond0_0 i) (hc1 : ¬cond0_1 i) (hc2 : cond0_2 i) (hc3 : ¬cond0_3 i)
    (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32) :
    Σ' (L11 : List (View.Piece (Elt F) S1024x512 .bf16)), { L13 : List (View.Piece (Elt F) S8960x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare w0 ∗ owns (c : Thread nD τ) arg13 fullShare w1 ∗ owns (c : Thread nD τ) arg14 fullShare s ∗ owns (c : Thread nD τ) arg15 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ owns (c : Thread nD τ) arg12 fullShare w0 ∗ (arg13.view.loc (c : Thread nD τ) ↦[arg13.view.set]{fullShare} arg13.view.writes (Elt F) (harg13.unread w1) L13) ∗ owns (c : Thread nD τ) arg14 fullShare s ∗ owns (c : Thread nD τ) arg15 fullShare z) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_w4a8_linear_eq_skeleton]; unfold cc0_w4a8_linear_skel
    simp only [k0_part16_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexists _; isplitr; · ipureintro; exact harg12.read_unread _
      iexact H12
    isplitl [H13]
    · iexact H13
    isplitl [H14]
    · iexists _; isplitr; · ipureintro; exact harg14.read_unread _
      iexact H14
    · iexists _; isplitr; · ipureintro; exact harg15.read_unread _
      iexact H15

end Cert.KernelIdeal.Hand

end
-- ==== Proof.RunC.lean ====
/- The ideal kernel's body run in case C: what it leaves in each buffer it stores into. -/
module

public import proofs.«01_k».proof.Proof.Cases

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- One run of the kernel's body in case C, on whole memrefs that hold the named contents: the pieces it stores into
    each buffer, with the proof that the body ends with those pieces written and every other buffer as it was. -/
noncomputable def runC (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole) (hc0 : ¬cond0_0 i) (hc1 : cond0_1 i) (hc2 : ¬cond0_2 i) (hc3 : cond0_3 i)
    (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32) :
    Σ' (L11 : List (View.Piece (Elt F) S1024x512 .bf16)), Σ' (L12 : List (View.Piece (Elt F) S8960x512 .bf16)), Σ' (L14 : List (View.Piece (Elt F) S70x512 .f32)), { L15 : List (View.Piece (Elt F) S70x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare w0 ∗ owns (c : Thread nD τ) arg13 fullShare w1 ∗ owns (c : Thread nD τ) arg14 fullShare s ∗ owns (c : Thread nD τ) arg15 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread w0) L12) ∗ owns (c : Thread nD τ) arg13 fullShare w1 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_w4a8_linear_eq_skeleton]; unfold cc0_w4a8_linear_skel
    simp only [k0_part16_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexact H12
    isplitl [H13]
    · iexists _; isplitr; · ipureintro; exact harg13.read_unread _
      iexact H13
    isplitl [H14]
    · iexists _; iexact H14
    · iexists _; iexact H15

end Cert.KernelIdeal.Hand

end
-- ==== Proof.RunD.lean ====
/- The ideal kernel's body run in case D: what it leaves in each buffer it stores into. -/
module

public import proofs.«01_k».proof.Proof.Cases

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- One run of the kernel's body in case D, on whole memrefs that hold the named contents: the pieces it stores into
    each buffer, with the proof that the body ends with those pieces written and every other buffer as it was. -/
noncomputable def runD (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole) (hc0 : ¬cond0_0 i) (hc1 : ¬cond0_1 i) (hc2 : ¬cond0_2 i) (hc3 : cond0_3 i)
    (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32) :
    Σ' (L11 : List (View.Piece (Elt F) S1024x512 .bf16)), { L12 : List (View.Piece (Elt F) S8960x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare w0 ∗ owns (c : Thread nD τ) arg13 fullShare w1 ∗ owns (c : Thread nD τ) arg14 fullShare s ∗ owns (c : Thread nD τ) arg15 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ (arg12.view.loc (c : Thread nD τ) ↦[arg12.view.set]{fullShare} arg12.view.writes (Elt F) (harg12.unread w0) L12) ∗ owns (c : Thread nD τ) arg13 fullShare w1 ∗ owns (c : Thread nD τ) arg14 fullShare s ∗ owns (c : Thread nD τ) arg15 fullShare z) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_w4a8_linear_eq_skeleton]; unfold cc0_w4a8_linear_skel
    simp only [k0_part16_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexact H12
    isplitl [H13]
    · iexists _; isplitr; · ipureintro; exact harg13.read_unread _
      iexact H13
    isplitl [H14]
    · iexists _; isplitr; · ipureintro; exact harg14.read_unread _
      iexact H14
    · iexists _; isplitr; · ipureintro; exact harg15.read_unread _
      iexact H15

end Cert.KernelIdeal.Hand

end
-- ==== Proof.RunE.lean ====
/- The ideal kernel's body run in case E: what it leaves in each buffer it stores into. -/
module

public import proofs.«01_k».proof.Proof.Cases

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- One run of the kernel's body in case E, on whole memrefs that hold the named contents: the pieces it stores into
    each buffer, with the proof that the body ends with those pieces written and every other buffer as it was. -/
noncomputable def runE (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole) (hc0 : ¬cond0_0 i) (hc1 : cond0_1 i) (hc2 : cond0_2 i) (hc3 : ¬cond0_3 i)
    (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32) :
    Σ' (L11 : List (View.Piece (Elt F) S1024x512 .bf16)), Σ' (L13 : List (View.Piece (Elt F) S8960x512 .bf16)), Σ' (L14 : List (View.Piece (Elt F) S70x512 .f32)), { L15 : List (View.Piece (Elt F) S70x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ owns (c : Thread nD τ) arg12 fullShare w0 ∗ owns (c : Thread nD τ) arg13 fullShare w1 ∗ owns (c : Thread nD τ) arg14 fullShare s ∗ owns (c : Thread nD τ) arg15 fullShare z
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L11) ∗ owns (c : Thread nD τ) arg12 fullShare w0 ∗ (arg13.view.loc (c : Thread nD τ) ↦[arg13.view.set]{fullShare} arg13.view.writes (Elt F) (harg13.unread w1) L13) ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15)) -∗ K ⟨⟩))
          ⊢ wp frame (wpE (defs₀ (F := F)) Variants.none c none) E (cc0_w4a8_linear i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_w4a8_linear_eq_skeleton]; unfold cc0_w4a8_linear_skel
    simp only [k0_part16_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13; obtain rfl := harg14.eq_unread hf14; obtain rfl := harg15.eq_unread hf15
    sl_exec (disch := first | sl_exact hc0 | sl_exact hc1 | sl_exact hc2 | sl_exact hc3)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists f11; iexact H11
    isplitl [H12]
    · iexists _; isplitr; · ipureintro; exact harg12.read_unread _
      iexact H12
    isplitl [H13]
    · iexact H13
    isplitl [H14]
    · iexists _; iexact H14
    · iexists _; iexact H15

end Cert.KernelIdeal.Hand

end
-- ==== Proof.Facts.lean ====
/- What each case of the kernel's run stores: the result block, the tiles of the next block of weights, and the scales. -/
module

public import proofs.«01_k».proof.Proof.Tile
public import proofs.«01_k».proof.Proof.RunA
public import proofs.«01_k».proof.Proof.RunB
public import proofs.«01_k».proof.Proof.RunC
public import proofs.«01_k».proof.Proof.RunD
public import proofs.«01_k».proof.Proof.RunE
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Scales, or scaled zero points, as the body stores them: unsigned bytes as floats. -/
def scl (g : Vec F S70x512 .i8) : Vec F S70x512 .f32 := k0_pay66 g

theorem zero2 : (![0, 0] : Fin 2 → ℕ) = fun _ => 0 := funext fun a => by match a with | ⟨0, _⟩ => rfl | ⟨1, _⟩ => rfl

/-- The result block a point stores. -/
def outBlk (x0 : Vec F S1024x8960 .i8) (w : Vec F S8960x512 .bf16) (x1 : Vec F S1024x1 .f32) (x2 : Vec F S1x512 .f32) :
    Vec F S1024x512 .bf16 := k0_pay69 x0 w x1 x2

section
variable (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole)
  (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32)

theorem tilesB (hc0 : ¬cond0_0 i) (hc1 : ¬cond0_1 i) (hc2 : cond0_2 i) (hc3 : ¬cond0_3 i) :
    List.Forall₂ (TileAt (wdeq x6 s z)) (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.1 (offs (g0 i)) := by
  have h14 := harg14.read_unread s
  have h15 := harg15.read_unread z
  have h8 := harg8.read_unread x6
  exact .cons (hiE h8 h14 h15 i 5) <| .cons (loE h8 h14 h15 i 5) <| .cons (hiE h8 h14 h15 i 4) <| .cons (loE h8 h14 h15 i 4) <| .cons (hiE h8 h14 h15 i 3) <| .cons (loE h8 h14 h15 i 3) <| .cons (hiE h8 h14 h15 i 2) <| .cons (loE h8 h14 h15 i 2) <| .cons (hiE h8 h14 h15 i 1) <| .cons (loE h8 h14 h15 i 1) <| .cons (hiE h8 h14 h15 i 0) <| .cons (loE h8 h14 h15 i 0) .nil

theorem outB (hc0 : ¬cond0_0 i) (hc1 : ¬cond0_1 i) (hc2 : cond0_2 i) (hc3 : ¬cond0_3 i) (f : arg11.view.ty.Contents (Elt F)) :
    arg11.view.read (Elt F) (arg11.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).1) = outBlk x0 w0 x1 x2 :=
  (View.read_writes_full _ _ _ _ _).trans (congr (congr (congr (congrArg outBlk (rd_full harg2 x0 _ zero2)) (rd_full harg12 w0 _ zero2))
    (rd_full harg3 x1 _ zero2)) (rd_full harg4 x2 _ zero2))

theorem tilesD (hc0 : ¬cond0_0 i) (hc1 : ¬cond0_1 i) (hc2 : ¬cond0_2 i) (hc3 : cond0_3 i) :
    List.Forall₂ (TileAt (wdeq x6 s z)) (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.1 (offs (g0 i)) := by
  have h14 := harg14.read_unread s
  have h15 := harg15.read_unread z
  have h8 := harg8.read_unread x6
  exact .cons (hiE h8 h14 h15 i 5) <| .cons (loE h8 h14 h15 i 5) <| .cons (hiE h8 h14 h15 i 4) <| .cons (loE h8 h14 h15 i 4) <| .cons (hiE h8 h14 h15 i 3) <| .cons (loE h8 h14 h15 i 3) <| .cons (hiE h8 h14 h15 i 2) <| .cons (loE h8 h14 h15 i 2) <| .cons (hiE h8 h14 h15 i 1) <| .cons (loE h8 h14 h15 i 1) <| .cons (hiE h8 h14 h15 i 0) <| .cons (loE h8 h14 h15 i 0) .nil

theorem outD (hc0 : ¬cond0_0 i) (hc1 : ¬cond0_1 i) (hc2 : ¬cond0_2 i) (hc3 : cond0_3 i) (f : arg11.view.ty.Contents (Elt F)) :
    arg11.view.read (Elt F) (arg11.view.writes (Elt F) f (runD c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).1) = outBlk x0 w1 x1 x2 :=
  (View.read_writes_full _ _ _ _ _).trans (congr (congr (congr (congrArg outBlk (rd_full harg2 x0 _ zero2)) (rd_full harg13 w1 _ zero2))
    (rd_full harg3 x1 _ zero2)) (rd_full harg4 x2 _ zero2))

theorem scalesE14 (hc0 : ¬cond0_0 i) (hc1 : cond0_1 i) (hc2 : cond0_2 i) (hc3 : ¬cond0_3 i) (f : arg14.view.ty.Contents (Elt F)) :
    arg14.view.read (Elt F) (arg14.view.writes (Elt F) f (runE c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.1) = scl x7 :=
  (View.read_writes_full _ _ _ _ _).trans (congrArg scl (rd_full harg9 x7 _ zero2))

theorem scalesE15 (hc0 : ¬cond0_0 i) (hc1 : cond0_1 i) (hc2 : cond0_2 i) (hc3 : ¬cond0_3 i) (f : arg15.view.ty.Contents (Elt F)) :
    arg15.view.read (Elt F) (arg15.view.writes (Elt F) f (runE c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.1) = scl x8 :=
  (View.read_writes_full _ _ _ _ _).trans (congrArg scl (rd_full harg10 x8 _ zero2))

theorem tilesE (hc0 : ¬cond0_0 i) (hc1 : cond0_1 i) (hc2 : cond0_2 i) (hc3 : ¬cond0_3 i) :
    List.Forall₂ (TileAt (wdeq x6 (scl x7) (scl x8))) (runE c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.1 (offs (g0 i)) := by
  have h14 : arg14.view.read (Elt F) (arg14.view.writes (Elt F) arg14.view.junk (runE c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.1) = scl x7 :=
    scalesE14 ..
  have h15 : arg15.view.read (Elt F) (arg15.view.writes (Elt F) arg15.view.junk (runE c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.1) = scl x8 :=
    scalesE15 ..
  have h8 := harg8.read_unread x6
  exact .cons (hiE h8 h14 h15 i 5) <| .cons (loE h8 h14 h15 i 5) <| .cons (hiE h8 h14 h15 i 4) <| .cons (loE h8 h14 h15 i 4) <| .cons (hiE h8 h14 h15 i 3) <| .cons (loE h8 h14 h15 i 3) <| .cons (hiE h8 h14 h15 i 2) <| .cons (loE h8 h14 h15 i 2) <| .cons (hiE h8 h14 h15 i 1) <| .cons (loE h8 h14 h15 i 1) <| .cons (hiE h8 h14 h15 i 0) <| .cons (loE h8 h14 h15 i 0) .nil

theorem outE (hc0 : ¬cond0_0 i) (hc1 : cond0_1 i) (hc2 : cond0_2 i) (hc3 : ¬cond0_3 i) (f : arg11.view.ty.Contents (Elt F)) :
    arg11.view.read (Elt F) (arg11.view.writes (Elt F) f (runE c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).1) = outBlk x0 w0 x1 x2 :=
  (View.read_writes_full _ _ _ _ _).trans (congr (congr (congr (congrArg outBlk (rd_full harg2 x0 _ zero2)) (rd_full harg12 w0 _ zero2))
    (rd_full harg3 x1 _ zero2)) (rd_full harg4 x2 _ zero2))

theorem scalesC14 (hc0 : ¬cond0_0 i) (hc1 : cond0_1 i) (hc2 : ¬cond0_2 i) (hc3 : cond0_3 i) (f : arg14.view.ty.Contents (Elt F)) :
    arg14.view.read (Elt F) (arg14.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.1) = scl x7 :=
  (View.read_writes_full _ _ _ _ _).trans (congrArg scl (rd_full harg9 x7 _ zero2))

theorem scalesC15 (hc0 : ¬cond0_0 i) (hc1 : cond0_1 i) (hc2 : ¬cond0_2 i) (hc3 : cond0_3 i) (f : arg15.view.ty.Contents (Elt F)) :
    arg15.view.read (Elt F) (arg15.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.1) = scl x8 :=
  (View.read_writes_full _ _ _ _ _).trans (congrArg scl (rd_full harg10 x8 _ zero2))

theorem tilesC (hc0 : ¬cond0_0 i) (hc1 : cond0_1 i) (hc2 : ¬cond0_2 i) (hc3 : cond0_3 i) :
    List.Forall₂ (TileAt (wdeq x6 (scl x7) (scl x8))) (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.1 (offs (g0 i)) := by
  have h14 : arg14.view.read (Elt F) (arg14.view.writes (Elt F) arg14.view.junk (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.1) = scl x7 :=
    scalesC14 ..
  have h15 : arg15.view.read (Elt F) (arg15.view.writes (Elt F) arg15.view.junk (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.1) = scl x8 :=
    scalesC15 ..
  have h8 := harg8.read_unread x6
  exact .cons (hiE h8 h14 h15 i 5) <| .cons (loE h8 h14 h15 i 5) <| .cons (hiE h8 h14 h15 i 4) <| .cons (loE h8 h14 h15 i 4) <| .cons (hiE h8 h14 h15 i 3) <| .cons (loE h8 h14 h15 i 3) <| .cons (hiE h8 h14 h15 i 2) <| .cons (loE h8 h14 h15 i 2) <| .cons (hiE h8 h14 h15 i 1) <| .cons (loE h8 h14 h15 i 1) <| .cons (hiE h8 h14 h15 i 0) <| .cons (loE h8 h14 h15 i 0) .nil

theorem outC (hc0 : ¬cond0_0 i) (hc1 : cond0_1 i) (hc2 : ¬cond0_2 i) (hc3 : cond0_3 i) (f : arg11.view.ty.Contents (Elt F)) :
    arg11.view.read (Elt F) (arg11.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).1) = outBlk x0 w1 x1 x2 :=
  (View.read_writes_full _ _ _ _ _).trans (congr (congr (congr (congrArg outBlk (rd_full harg2 x0 _ zero2)) (rd_full harg13 w1 _ zero2))
    (rd_full harg3 x1 _ zero2)) (rd_full harg4 x2 _ zero2))

end

end Cert.KernelIdeal.Hand

end
-- ==== Proof.FactsA.lean ====
/- What the first point's run stores: the whole first block of weights, by its loop over the groups, and the rest as at the other
   points. -/
module

public import proofs.«01_k».proof.Proof.Facts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-! ## The loop over the groups -/

theorem trips_eq : k0_t1_loop.trips = 35 := by decide +kernel

theorem off1_eq : ∀ k : Fin k0_t1_loop.trips, k0_off1 k = ![128 * k.val, 0] := by decide +kernel
theorem off2_eq : ∀ k : Fin k0_t1_loop.trips, k0_off2 k 0#32 = ![k.val, 0] := by decide +kernel
theorem off2_eq' : ∀ k : Fin k0_t1_loop.trips, k0_off2 k 35#32 = ![k.val + 35, 0] := by decide +kernel
theorem off3_eq : ∀ k : Fin k0_t1_loop.trips, k0_off3 k 0#32 = ![128 * k.val, 0] := by decide +kernel
theorem off3_eq' : ∀ k : Fin k0_t1_loop.trips, k0_off3 k 4480#32 = ![128 * k.val + 4480, 0] := by decide +kernel

/-- The first rows of the tiles the loop's first `k` trips store, last stored first. -/
def loopOffs : ℕ → List ℕ
  | 0 => []
  | k + 1 => (128 * k + 4480) :: (128 * k) :: loopOffs k

theorem mem_loopOffs (r : ℕ) : ∀ k : ℕ, (r < 128 * k ∨ (4480 ≤ r ∧ r < 128 * k + 4480)) → ∃ o ∈ loopOffs k, o ≤ r ∧ r < o + 128
  | 0, h => by omega
  | k + 1, h => by
    by_cases h0 : 128 * k ≤ r ∧ r < 128 * k + 128
    · exact ⟨_, .tail _ (.head _), h0⟩
    by_cases h1 : 128 * k + 4480 ≤ r ∧ r < 128 * k + 4480 + 128
    · exact ⟨_, .head _, h1⟩
    obtain ⟨o, ho, hr⟩ := mem_loopOffs r k (by omega)
    exact ⟨o, .tail _ (.tail _ ho), hr⟩

section
variable (c : Dev nD) (i : grid0.Coords) (arg2 : Memref sig .tc .vmem S1024x8960 .i8) (harg2 : arg2.IsWhole) (arg3 : Memref sig .tc .vmem S1024x1 .f32) (harg3 : arg3.IsWhole) (arg4 : Memref sig .tc .vmem S1x512 .f32) (harg4 : arg4.IsWhole) (arg5 : Memref sig .tc .vmem S4480x512 .i8) (harg5 : arg5.IsWhole) (arg6 : Memref sig .tc .vmem S70x512 .i8) (harg6 : arg6.IsWhole) (arg7 : Memref sig .tc .vmem S70x512 .i8) (harg7 : arg7.IsWhole) (arg8 : Memref sig .tc .vmem S4480x512 .i8) (harg8 : arg8.IsWhole) (arg9 : Memref sig .tc .vmem S70x512 .i8) (harg9 : arg9.IsWhole) (arg10 : Memref sig .tc .vmem S70x512 .i8) (harg10 : arg10.IsWhole) (arg11 : Memref sig .tc .vmem S1024x512 .bf16) (harg11 : arg11.IsWhole) (arg12 : Memref sig .tc .vmem S8960x512 .bf16) (harg12 : arg12.IsWhole) (arg13 : Memref sig .tc .vmem S8960x512 .bf16) (harg13 : arg13.IsWhole) (arg14 : Memref sig .tc .vmem S70x512 .f32) (harg14 : arg14.IsWhole) (arg15 : Memref sig .tc .vmem S70x512 .f32) (harg15 : arg15.IsWhole)

/-- One trip stores the two tiles of its group. -/
theorem trip_tiles (hc0 : cond0_0 i) {f5 : arg5.view.ty.Contents (Elt F)} {f14 : arg14.view.ty.Contents (Elt F)}
    {f15 : arg15.view.ty.Contents (Elt F)} {p : Vec F S4480x512 .i8} {s z : Vec F S70x512 .f32}
    (h5 : arg5.view.read (Elt F) f5 = p) (h14 : arg14.view.read (Elt F) f14 = s) (h15 : arg15.view.read (Elt F) f15 = z)
    (k : Fin k0_t1_loop.trips) :
    List.Forall₂ (TileAt (wdeq p s z)) (tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc0 f5 f14 f15 k)
      [128 * k.val + 4480, 128 * k.val] := by
  have hk : k.val < 35 := Nat.lt_of_lt_of_eq k.isLt trips_eq
  unfold tripL_k0_t1 trip_k0_t1
  exact .cons (hi_tile h5 h14 h15 _ _ _ _ k.val hk (off1_eq k) (off2_eq' k) (off2_eq' k) (off3_eq' k)) <|
    .cons (lo_tile h5 h14 h15 _ _ _ _ k.val hk (off1_eq k) (off2_eq k) (off2_eq k) (off3_eq k)) .nil

/-- The first `k` trips store the tiles of their groups. -/
theorem loop_tiles (hc0 : cond0_0 i) {f5 : arg5.view.ty.Contents (Elt F)} {f14 : arg14.view.ty.Contents (Elt F)}
    {f15 : arg15.view.ty.Contents (Elt F)} {p : Vec F S4480x512 .i8} {s z : Vec F S70x512 .f32}
    (h5 : arg5.view.read (Elt F) f5 = p) (h14 : arg14.view.read (Elt F) f14 = s) (h15 : arg15.view.read (Elt F) f15 = z) :
    ∀ k : ℕ, k ≤ k0_t1_loop.trips →
      List.Forall₂ (TileAt (wdeq p s z)) (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc0 f5 f14 f15 k) (loopOffs k)
  | 0, _ => .nil
  | k + 1, h => by
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc0 f5 f14 f15 ⟨k, h⟩
    have t := trip_tiles c i arg2 harg2 arg3 harg3 arg4 harg4 arg5 harg5 arg6 harg6 arg7 harg7 arg8 harg8 arg9 harg9 arg10 harg10 arg11 harg11 arg12 harg12 arg13 harg13 arg14 harg14 arg15 harg15 hc0 h5 h14 h15 ⟨k, h⟩
    have r := loop_tiles hc0 h5 h14 h15 k (Nat.le_of_succ_le h)
    rw [e]
    exact List.rel_append t r

/-- After the loop the buffer holds the whole dequantised block. -/
theorem loop_read (hc0 : cond0_0 i) {f5 : arg5.view.ty.Contents (Elt F)} {f14 : arg14.view.ty.Contents (Elt F)}
    {f15 : arg15.view.ty.Contents (Elt F)} {p : Vec F S4480x512 .i8} {s z : Vec F S70x512 .f32}
    (h5 : arg5.view.read (Elt F) f5 = p) (h14 : arg14.view.read (Elt F) f14 = s) (h15 : arg15.view.read (Elt F) f15 = z)
    (f : arg12.view.ty.Contents (Elt F)) :
    arg12.view.read (Elt F) (arg12.view.writes (Elt F) f
      (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 hc0 f5 f14 f15 k0_t1_loop.trips)) = wdeq p s z := by
  funext y
  refine read_tiles arg12.view _ f y _ _ (loop_tiles c i arg2 harg2 arg3 harg3 arg4 harg4 arg5 harg5 arg6 harg6 arg7 harg7 arg8 harg8 arg9 harg9 arg10 harg10 arg11 harg11 arg12 harg12 arg13 harg13 arg14 harg14 arg15 harg15 hc0 h5 h14 h15 _ le_rfl) (.inr (mem_loopOffs _ _ ?_))
  rw [trips_eq]
  have : (y 0).val < 8960 := (y 0).isLt
  omega

variable (x0 : Vec F S1024x8960 .i8) (x1 : Vec F S1024x1 .f32) (x2 : Vec F S1x512 .f32) (x3 : Vec F S4480x512 .i8) (x4 : Vec F S70x512 .i8) (x5 : Vec F S70x512 .i8) (x6 : Vec F S4480x512 .i8) (x7 : Vec F S70x512 .i8) (x8 : Vec F S70x512 .i8) (w0 : Vec F S8960x512 .bf16) (w1 : Vec F S8960x512 .bf16) (s : Vec F S70x512 .f32) (z : Vec F S70x512 .f32)
  (hc0 : cond0_0 i) (hc1 : cond0_1 i) (hc2 : cond0_2 i) (hc3 : ¬cond0_3 i)

theorem scalesA14 (f : arg14.view.ty.Contents (Elt F)) :
    arg14.view.read (Elt F) (arg14.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.1) = scl x7 :=
  (View.read_writes_full _ _ _ _ _).trans (congrArg scl (rd_full harg9 x7 _ zero2))

theorem scalesA15 (f : arg15.view.ty.Contents (Elt F)) :
    arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.2.1) = scl x8 :=
  (View.read_writes_full _ _ _ _ _).trans (congrArg scl (rd_full harg10 x8 _ zero2))

theorem tilesA :
    List.Forall₂ (TileAt (wdeq x6 (scl x7) (scl x8))) (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.1 (offs (g0 i)) := by
  have h14 : arg14.view.read (Elt F) (arg14.view.writes (Elt F) arg14.view.junk (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.1) = scl x7 := scalesA14 ..
  have h15 : arg15.view.read (Elt F) (arg15.view.writes (Elt F) arg15.view.junk (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.2.2.2.1) = scl x8 := scalesA15 ..
  have h8 := harg8.read_unread x6
  exact .cons (hiE h8 h14 h15 i 5) <| .cons (loE h8 h14 h15 i 5) <| .cons (hiE h8 h14 h15 i 4) <| .cons (loE h8 h14 h15 i 4) <| .cons (hiE h8 h14 h15 i 3) <| .cons (loE h8 h14 h15 i 3) <| .cons (hiE h8 h14 h15 i 2) <| .cons (loE h8 h14 h15 i 2) <| .cons (hiE h8 h14 h15 i 1) <| .cons (loE h8 h14 h15 i 1) <| .cons (hiE h8 h14 h15 i 0) <| .cons (loE h8 h14 h15 i 0) .nil

theorem curA (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).2.1) = wdeq x3 (scl x4) (scl x5) :=
  loop_read c i arg2 harg2 arg3 harg3 arg4 harg4 arg5 harg5 arg6 harg6 arg7 harg7 arg8 harg8 arg9 harg9 arg10 harg10 arg11 harg11 arg12 harg12 arg13 harg13 arg14 harg14 arg15 harg15 hc0 (harg5.read_unread x3)
    ((View.read_writes_full _ _ _ _ _).trans (congrArg scl (rd_full harg6 x4 _ zero2)))
    ((View.read_writes_full _ _ _ _ _).trans (congrArg scl (rd_full harg7 x5 _ zero2))) f

theorem outA (f : arg11.view.ty.Contents (Elt F)) :
    arg11.view.read (Elt F) (arg11.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 w0 w1 s z).1) = outBlk x0 (wdeq x3 (scl x4) (scl x5)) x1 x2 :=
  (View.read_writes_full _ _ _ _ _).trans (congr (congr (congr (congrArg outBlk (rd_full harg2 x0 _ zero2))
    ((View.readAt_full _ _ _).trans (curA (c) i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 w0 w1 s z hc0 hc1 hc2 hc3 (harg12.unread w0))))
    (rd_full harg3 x1 _ zero2)) (rd_full harg4 x2 _ zero2))

end

end Cert.KernelIdeal.Hand

end
-- ==== Proof.Blocks.lean ====
/- The blocks of the operands in closed form over the grid points, and the weights of a column block: the quarter of the
   invariant that is about arrays only. -/
module

public import proofs.«01_k».proof.Proof.FactsA
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ)

/-- Every window's block index at a point, the point being row block `t % 6` of column block `t / 6`. -/
theorem idx : ∀ t : Fin cfg0.N, win0_0.index t = ![t.val % 6, 0] ∧ win0_1.index t = ![t.val % 6, 0] ∧ win0_2.index t = ![0, t.val / 6]
    ∧ win0_3.index t = ![0, 0] ∧ win0_4.index t = ![0, 0] ∧ win0_5.index t = ![0, 0]
    ∧ win0_6.index t = ![0, min (t.val / 6 + 1) 9] ∧ win0_7.index t = ![0, min (t.val / 6 + 1) 9]
    ∧ win0_8.index t = ![0, min (t.val / 6 + 1) 9] ∧ win0_9.index t = ![t.val % 6, t.val / 6] :=
  (by decide +kernel : ∀ t : Fin grid0.N, _)

/-- Column block `n` of the packed codes, -/
def pkb (c : Dev nD) (n : Fin 10) : Vec F S4480x512 .i8 := fun y =>
  V m c main_arg2 (ix2 (n0 := 4480) (n1 := 5120) (y 0) ⟨n.val * 512 + (y 1).val, by have h : (y 1).val < 512 := (y 1).isLt; have := n.isLt; omega⟩)
/-- of the groups' scales, -/
def gsb (c : Dev nD) (n : Fin 10) : Vec F S70x512 .i8 := fun y =>
  V m c main_arg3 (ix2 (n0 := 70) (n1 := 5120) (y 0) ⟨n.val * 512 + (y 1).val, by have h : (y 1).val < 512 := (y 1).isLt; have := n.isLt; omega⟩)
/-- and of the groups' zero points. -/
def gzb (c : Dev nD) (n : Fin 10) : Vec F S70x512 .i8 := fun y =>
  V m c main_arg4 (ix2 (n0 := 70) (n1 := 5120) (y 0) ⟨n.val * 512 + (y 1).val, by have h : (y 1).val < 512 := (y 1).isLt; have := n.isLt; omega⟩)

/-- The dequantised weights of column block `n`. -/
def Wd (c : Dev nD) (n : Fin 10) : Vec F S8960x512 .bf16 := wdeq (pkb m c n) (scl (gsb m c n)) (scl (gzb m c n))

/-- The column block of a point, and the one its weights are prepared for. -/
def cb (t : Fin cfg0.N) : Fin 10 := ⟨t.val / 6, by have := lt_of_lt_of_eq t.isLt (show cfg0.N = 60 from N_0); omega⟩
def nx (t : Fin cfg0.N) : Fin 10 := ⟨min (t.val / 6 + 1) 9, by omega⟩

theorem iblk3 (c : Dev nD) (t : Fin cfg0.N) : iblk m c 3 t = pkb m c 0 := by
  funext y; unfold pkb; blk_ext [iblk, idx t]
theorem iblk4 (c : Dev nD) (t : Fin cfg0.N) : iblk m c 4 t = gsb m c 0 := by
  funext y; unfold gsb; blk_ext [iblk, idx t]
theorem iblk5 (c : Dev nD) (t : Fin cfg0.N) : iblk m c 5 t = gzb m c 0 := by
  funext y; unfold gzb; blk_ext [iblk, idx t]
theorem iblk6 (c : Dev nD) (t : Fin cfg0.N) : iblk m c 6 t = pkb m c (nx t) := by
  funext y; unfold pkb nx; blk_ext [iblk, idx t]
theorem iblk7 (c : Dev nD) (t : Fin cfg0.N) : iblk m c 7 t = gsb m c (nx t) := by
  funext y; unfold gsb nx; blk_ext [iblk, idx t]
theorem iblk8 (c : Dev nD) (t : Fin cfg0.N) : iblk m c 8 t = gzb m c (nx t) := by
  funext y; unfold gzb nx; blk_ext [iblk, idx t]

/-! ## The state between points -/

/-- The buffer `w` holds the first `k` sixths of the weights `W` (the last sixth is the shorter one). -/
def Filled (W w : Vec F S8960x512 .bf16) (k : ℕ) : Prop :=
  ∀ y : S8960x512.Idx, (y 0).val % 4480 < 128 * min (6 * k) 35 → w y = W y

theorem filled_all {W w : Vec F S8960x512 .bf16} (h : Filled W w 6) : w = W :=
  funext fun y => h y (by have := Nat.mod_lt (y 0).val (show 4480 > 0 by decide); omega)

/-- Storing the six groups of tiles of row block `k` fills one more sixth. -/
theorem filled_step {W w : Vec F S8960x512 .bf16} {k : ℕ} (hk : k < 6) (i : grid0.Coords) (hi : (i 1).val = k)
    {arg : Memref sig .tc .vmem S8960x512 .bf16} (harg : arg.IsWhole) {L : List (View.Piece (Elt F) S8960x512 .bf16)}
    (hL : List.Forall₂ (TileAt W) L (offs (g0 i))) (h : k ≠ 0 → Filled W w k) :
    Filled W (arg.view.read (Elt F) (arg.view.writes (Elt F) (harg.unread w) L)) (k + 1) := by
  intro y hy
  have hy0 : (y 0).val < 8960 := (y 0).isLt
  refine read_tiles arg.view W _ y L _ hL ?_
  by_cases hc : (y 0).val % 4480 < 128 * (min (6 * k) 35)
  · by_cases hk0 : k = 0
    · subst hk0; omega
    · exact .inl ((congrFun (harg.read_unread w) y).trans (h hk0 y hc))
  · refine .inr (mem_offs _ (by unfold g0; omega) _ ?_)
    unfold g0; rw [hi]
    omega

/-- What the four scratch buffers hold after point `t`: the scales and zero points of the next column block, the weights of
    the current one, and of the next one's the sixths prepared so far. The two weight buffers change roles with the parity
    of the column block. -/
structure Good (c : Dev nD) (t : Fin cfg0.N) (w0 w1 : Vec F S8960x512 .bf16) (s z : Vec F S70x512 .f32) : Prop where
  hs : s = scl (gsb m c (nx t))
  hz : z = scl (gzb m c (nx t))
  cur : (if t.val % 12 < 6 then w0 else w1) = Wd m c (cb t)
  nxt : Filled (Wd m c (nx t)) (if t.val % 12 < 6 then w1 else w0) (t.val % 6 + 1)

end Cert.KernelIdeal.Hand

end
-- ==== Proof.State.lean ====
/- The state the scratch buffers are in when a point starts, and what a point leaves. -/
module

public import proofs.«01_k».proof.Proof.Blocks

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The state the point numbered `k` finds: that of the point before it, if there is one. -/
def Prev (c : Dev nD) (k : ℕ) (w0 w1 : Vec F S8960x512 .bf16) (s z : Vec F S70x512 .f32) : Prop :=
  ∀ t' : Fin cfg0.N, t'.val + 1 = k → Good m c t' w0 w1 s z

/-- Inside a column block the state of the point before names this point's blocks. -/
theorem prev_same (c : Dev nD) (t : Fin cfg0.N) (h1 : ¬t.val % 6 = 0) (w0 w1 : Vec F S8960x512 .bf16) (s z : Vec F S70x512 .f32)
    (hp : Prev m c t.val w0 w1 s z) :
    s = scl (gsb m c (nx t)) ∧ z = scl (gzb m c (nx t)) ∧ (if t.val % 12 < 6 then w0 else w1) = Wd m c (cb t)
      ∧ Filled (Wd m c (nx t)) (if t.val % 12 < 6 then w1 else w0) (t.val % 6) := by
  obtain ⟨hs, hz, hc, hn⟩ := hp ⟨t.val - 1, by omega⟩ (by show t.val - 1 + 1 = t.val; omega)
  have e1 : nx ⟨t.val - 1, by omega⟩ = nx t := Fin.ext (by show min ((t.val - 1) / 6 + 1) 9 = min (t.val / 6 + 1) 9; omega)
  have e2 : cb ⟨t.val - 1, by omega⟩ = cb t := Fin.ext (by show (t.val - 1) / 6 = t.val / 6; omega)
  have e3 : (t.val - 1) % 12 < 6 ↔ t.val % 12 < 6 := by omega
  have e4 : (t.val - 1) % 6 + 1 = t.val % 6 := by omega
  rw [e1] at hs hz hn; rw [e2] at hc
  simp only [e3, e4] at hc hn
  exact ⟨hs, hz, hc, hn⟩

/-- At the first point of a column block but the first, the weights prepared during the block before are this block's. -/
theorem prev_full (c : Dev nD) (t : Fin cfg0.N) (h0 : ¬t.val % 60 = 0) (h1 : t.val % 6 = 0) (w0 w1 : Vec F S8960x512 .bf16)
    (s z : Vec F S70x512 .f32) (hp : Prev m c t.val w0 w1 s z) :
    (if t.val % 12 < 6 then w0 else w1) = Wd m c (cb t) := by
  have hN : t.val < 60 := lt_of_lt_of_eq t.isLt (show cfg0.N = 60 from N_0)
  obtain ⟨hs, hz, hc, hn⟩ := hp ⟨t.val - 1, by omega⟩ (by show t.val - 1 + 1 = t.val; omega)
  have e1 : nx ⟨t.val - 1, by omega⟩ = cb t := Fin.ext (by show min ((t.val - 1) / 6 + 1) 9 = t.val / 6; omega)
  have e4 : (t.val - 1) % 6 + 1 = 6 := by omega
  rw [e1] at hn
  simp only [e4] at hn
  have hf := filled_all hn
  by_cases h : t.val % 12 < 6
  · rw [if_pos h]; rwa [if_neg (by omega)] at hf
  · rw [if_neg h]; rwa [if_pos (by omega)] at hf

theorem coord1 (t : Fin cfg0.N) : (grid0.coords t 1).val = t.val % 6 :=
  (Pipeline.Grid.coords_val t 1 (by decide) rfl : (grid0.coords t 1).val = t.val / 1 % 6).trans (by rw [Nat.div_one])

/-- The output block of point `t`: the product of the row block with the column block's weights, scaled. -/
def outVal (c : Dev nD) (t : Fin cfg0.N) : Vec F S1024x512 .bf16 := outBlk (iblk m c 0 t) (Wd m c (cb t)) (iblk m c 1 t) (iblk m c 2 t)

/-- What the body leaves at point `t`. -/
def stepPost (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (outVal m c t)
    ∗ ∃ w0, ∃ w1, ∃ s, ∃ z, ⌜Good m c t w0 w1 s z⌝ ∗ owns (c : Thread nD τ) scM0_0 fullShare w0 ∗ owns (c : Thread nD τ) scM0_1 fullShare w1 ∗ owns (c : Thread nD τ) scM0_2 fullShare s ∗ owns (c : Thread nD τ) scM0_3 fullShare z)

end Cert.KernelIdeal.Hand

end
-- ==== Proof.Steps.lean ====
/- The body at one point, case by case: from the state of the point before to the output block and the state of this point. -/
module

public import proofs.«01_k».proof.Proof.State

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The body at a point of case A: from buffers in the state of the point before to the output block and the state of this
    point. -/
theorem stepA (c : Dev nD) (t : Fin cfg0.N) (h0 : t.val % 60 = 0) (h1 : t.val % 6 = 0) (h2 : (t.val % 12 = 0 ∨ t.val % 12 = 1 ∨ t.val % 12 = 2 ∨ t.val % 12 = 3 ∨ t.val % 12 = 4 ∨ t.val % 12 = 5)) (h3 : ¬(t.val % 12 = 6 ∨ t.val % 12 = 7 ∨ t.val % 12 = 8 ∨ t.val % 12 = 9 ∨ t.val % 12 = 10 ∨ t.val % 12 = 11)) (w0 w1 : Vec F S8960x512 .bf16)
    (s z : Vec F S70x512 .f32) (hp : Prev m c t.val w0 w1 s z) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ owns (c : Thread nD τ) scM0_0 fullShare w0 ∗ owns (c : Thread nD τ) scM0_1 fullShare w1 ∗ owns (c : Thread nD τ) scM0_2 fullShare s ∗ owns (c : Thread nD τ) scM0_3 fullShare z)
      ⊢ wp frame (wpE (defs₀ (F := F)) Variants.none c none) Set.univ (bodyAt0 t) (fun _ => stepPost m c t) := by
  have hN : t.val < 60 := lt_of_lt_of_eq t.isLt (show cfg0.N = 60 from N_0)
  have hcur : wdeq (iblk m c 3 t) (scl (iblk m c 4 t)) (scl (iblk m c 5 t)) = Wd m c (cb t) := by
    rw [iblk3, iblk4, iblk5, show cb t = 0 from Fin.ext (by show t.val / 6 = 0; omega)]; rfl
  have hW : wdeq (iblk m c 6 t) (scl (iblk m c 7 t)) (scl (iblk m c 8 t)) = Wd m c (nx t) := by rw [iblk6, iblk7, iblk8]; rfl
  have hF : Filled (Wd m c (nx t)) (scM0_1.view.read (Elt F) (scM0_1.view.writes (Elt F) ((Memref.isWhole_whole _).unread w1) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.1)) (t.val % 6 + 1) :=
    filled_step (by omega) (grid0.coords t) (coord1 t) (Memref.isWhole_whole _) (hW ▸ tilesA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z ((hcond0_0 t).mpr h0) ((hcond0_1 t).mpr h1) ((hcond0_2 t).mpr h2) (fun h => h3 ((hcond0_3 t).mp h))) (fun h => absurd h1 h)
  have hG : Good m c t (scM0_0.view.read (Elt F) (scM0_0.view.writes (Elt F) ((Memref.isWhole_whole _).unread w0) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.1)) (scM0_1.view.read (Elt F) (scM0_1.view.writes (Elt F) ((Memref.isWhole_whole _).unread w1) (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.1)) (scl (iblk m c 7 t)) (scl (iblk m c 8 t)) :=
    ⟨congrArg scl (iblk7 m c t), congrArg scl (iblk8 m c t), (if_pos (by omega : t.val % 12 < 6)).trans ((curA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z ((hcond0_0 t).mpr h0) ((hcond0_1 t).mpr h1) ((hcond0_2 t).mpr h2) (fun h => h3 ((hcond0_3 t).mp h)) _).trans hcur), (if_pos (by omega : t.val % 12 < 6) : (if t.val % 12 < 6 then _ else _) = _) ▸ hF⟩
  have hO : ∀ f, (ms0_9 t).view.read (Elt F) ((ms0_9 t).view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).1) = outVal m c t := fun f =>
    (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z ((hcond0_0 t).mpr h0) ((hcond0_1 t).mpr h1) ((hcond0_2 t).mpr h2) (fun h => h3 ((hcond0_3 t).mp h)) f).trans (congrArg (fun w => outBlk (iblk m c 0 t) w (iblk m c 1 t) (iblk m c 2 t)) hcur)
  have h14 : ∀ f, scM0_2.view.read (Elt F) (scM0_2.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.2.1) = (scl (iblk m c 7 t)) := scalesA14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z ((hcond0_0 t).mpr h0) ((hcond0_1 t).mpr h1) ((hcond0_2 t).mpr h2) (fun h => h3 ((hcond0_3 t).mp h))
  have h15 : ∀ f, scM0_3.view.read (Elt F) (scM0_3.view.writes (Elt F) f (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.2.2.1) = (scl (iblk m c 8 t)) := scalesA15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z ((hcond0_0 t).mpr h0) ((hcond0_1 t).mpr h1) ((hcond0_2 t).mpr h2) (fun h => h3 ((hcond0_3 t).mp h))
  unfold bodyAt0 stepPost
  iintro ⟨H0, H1, H2, H3, H4, H5, H6, H7, H8, H9, HS0, HS1, HS2, HS3⟩
  iapply ((runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, HS0, HS1, ⟨%e2, HS2⟩, ⟨%e3, HS3⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hO _
  iexists _; iexists _; iexists _; iexists _
  isplitr
  · ipureintro; exact hG
  isplitl [HS0]
  · unfold owns; iexists _; isplitr
    swap; · iexact HS0
    ipureintro; rfl
  isplitl [HS1]
  · unfold owns; iexists _; isplitr
    swap; · iexact HS1
    ipureintro; rfl
  isplitl [HS2]
  · unfold owns; iexists _; isplitr
    swap; · iexact HS2
    ipureintro; exact h14 _
  · unfold owns; iexists _; isplitr
    swap; · iexact HS3
    ipureintro; exact h15 _

set_option maxHeartbeats 4000000 in
/-- The body at a point of case B: from buffers in the state of the point before to the output block and the state of this
    point. -/
theorem stepB (c : Dev nD) (t : Fin cfg0.N) (h0 : ¬t.val % 60 = 0) (h1 : ¬t.val % 6 = 0) (h2 : (t.val % 12 = 0 ∨ t.val % 12 = 1 ∨ t.val % 12 = 2 ∨ t.val % 12 = 3 ∨ t.val % 12 = 4 ∨ t.val % 12 = 5)) (h3 : ¬(t.val % 12 = 6 ∨ t.val % 12 = 7 ∨ t.val % 12 = 8 ∨ t.val % 12 = 9 ∨ t.val % 12 = 10 ∨ t.val % 12 = 11)) (w0 w1 : Vec F S8960x512 .bf16)
    (s z : Vec F S70x512 .f32) (hp : Prev m c t.val w0 w1 s z) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ owns (c : Thread nD τ) scM0_0 fullShare w0 ∗ owns (c : Thread nD τ) scM0_1 fullShare w1 ∗ owns (c : Thread nD τ) scM0_2 fullShare s ∗ owns (c : Thread nD τ) scM0_3 fullShare z)
      ⊢ wp frame (wpE (defs₀ (F := F)) Variants.none c none) Set.univ (bodyAt0 t) (fun _ => stepPost m c t) := by
  have hN : t.val < 60 := lt_of_lt_of_eq t.isLt (show cfg0.N = 60 from N_0)
  obtain ⟨hs, hz, hc, hn⟩ := prev_same m c t h1 w0 w1 s z hp
  have hcur : w0 = Wd m c (cb t) := (if_pos (by omega : t.val % 12 < 6)).symm.trans hc
  have hW : wdeq (iblk m c 6 t) s z = Wd m c (nx t) := by rw [iblk6, hs, hz]; rfl
  have hF : Filled (Wd m c (nx t)) (scM0_1.view.read (Elt F) (scM0_1.view.writes (Elt F) ((Memref.isWhole_whole _).unread w1) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.1)) (t.val % 6 + 1) :=
    filled_step (by omega) (grid0.coords t) (coord1 t) (Memref.isWhole_whole _) (hW ▸ tilesB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) (fun h => h1 ((hcond0_1 t).mp h)) ((hcond0_2 t).mpr h2) (fun h => h3 ((hcond0_3 t).mp h))) (fun _ => (if_pos (by omega : t.val % 12 < 6) : (if t.val % 12 < 6 then w1 else w0) = w1) ▸ hn)
  have hG : Good m c t w0 (scM0_1.view.read (Elt F) (scM0_1.view.writes (Elt F) ((Memref.isWhole_whole _).unread w1) (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.1)) s z :=
    ⟨hs, hz, (if_pos (by omega : t.val % 12 < 6)).trans hcur, (if_pos (by omega : t.val % 12 < 6) : (if t.val % 12 < 6 then _ else _) = _) ▸ hF⟩
  have hO : ∀ f, (ms0_9 t).view.read (Elt F) ((ms0_9 t).view.writes (Elt F) f (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).1) = outVal m c t := fun f =>
    (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) (fun h => h1 ((hcond0_1 t).mp h)) ((hcond0_2 t).mpr h2) (fun h => h3 ((hcond0_3 t).mp h)) f).trans (congrArg (fun w => outBlk (iblk m c 0 t) w (iblk m c 1 t) (iblk m c 2 t)) hcur)
  unfold bodyAt0 stepPost
  iintro ⟨H0, H1, H2, H3, H4, H5, H6, H7, H8, H9, HS0, HS1, HS2, HS3⟩
  iapply ((runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, HS0, HS1, HS2, HS3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hO _
  iexists _; iexists _; iexists _; iexists _
  isplitr
  · ipureintro; exact hG
  isplitl [HS0]
  · iexact HS0
  isplitl [HS1]
  · unfold owns; iexists _; isplitr
    swap; · iexact HS1
    ipureintro; rfl
  isplitl [HS2]
  · iexact HS2
  · iexact HS3

set_option maxHeartbeats 4000000 in
/-- The body at a point of case C: from buffers in the state of the point before to the output block and the state of this
    point. -/
theorem stepC (c : Dev nD) (t : Fin cfg0.N) (h0 : ¬t.val % 60 = 0) (h1 : t.val % 6 = 0) (h2 : ¬(t.val % 12 = 0 ∨ t.val % 12 = 1 ∨ t.val % 12 = 2 ∨ t.val % 12 = 3 ∨ t.val % 12 = 4 ∨ t.val % 12 = 5)) (h3 : (t.val % 12 = 6 ∨ t.val % 12 = 7 ∨ t.val % 12 = 8 ∨ t.val % 12 = 9 ∨ t.val % 12 = 10 ∨ t.val % 12 = 11)) (w0 w1 : Vec F S8960x512 .bf16)
    (s z : Vec F S70x512 .f32) (hp : Prev m c t.val w0 w1 s z) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ owns (c : Thread nD τ) scM0_0 fullShare w0 ∗ owns (c : Thread nD τ) scM0_1 fullShare w1 ∗ owns (c : Thread nD τ) scM0_2 fullShare s ∗ owns (c : Thread nD τ) scM0_3 fullShare z)
      ⊢ wp frame (wpE (defs₀ (F := F)) Variants.none c none) Set.univ (bodyAt0 t) (fun _ => stepPost m c t) := by
  have hN : t.val < 60 := lt_of_lt_of_eq t.isLt (show cfg0.N = 60 from N_0)
  have hc := prev_full m c t h0 h1 w0 w1 s z hp
  have hcur : w1 = Wd m c (cb t) := (if_neg (by omega : ¬t.val % 12 < 6)).symm.trans hc
  have hW : wdeq (iblk m c 6 t) (scl (iblk m c 7 t)) (scl (iblk m c 8 t)) = Wd m c (nx t) := by rw [iblk6, iblk7, iblk8]; rfl
  have hF : Filled (Wd m c (nx t)) (scM0_0.view.read (Elt F) (scM0_0.view.writes (Elt F) ((Memref.isWhole_whole _).unread w0) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.1)) (t.val % 6 + 1) :=
    filled_step (by omega) (grid0.coords t) (coord1 t) (Memref.isWhole_whole _) (hW ▸ tilesC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) (fun h => h2 ((hcond0_2 t).mp h)) ((hcond0_3 t).mpr h3)) (fun h => absurd h1 h)
  have hG : Good m c t (scM0_0.view.read (Elt F) (scM0_0.view.writes (Elt F) ((Memref.isWhole_whole _).unread w0) (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.1)) w1 (scl (iblk m c 7 t)) (scl (iblk m c 8 t)) :=
    ⟨congrArg scl (iblk7 m c t), congrArg scl (iblk8 m c t), (if_neg (by omega : ¬t.val % 12 < 6)).trans hcur, (if_neg (by omega : ¬t.val % 12 < 6) : (if t.val % 12 < 6 then _ else _) = _) ▸ hF⟩
  have hO : ∀ f, (ms0_9 t).view.read (Elt F) ((ms0_9 t).view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).1) = outVal m c t := fun f =>
    (outC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) (fun h => h2 ((hcond0_2 t).mp h)) ((hcond0_3 t).mpr h3) f).trans (congrArg (fun w => outBlk (iblk m c 0 t) w (iblk m c 1 t) (iblk m c 2 t)) hcur)
  have h14 : ∀ f, scM0_2.view.read (Elt F) (scM0_2.view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.2.1) = (scl (iblk m c 7 t)) := scalesC14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) (fun h => h2 ((hcond0_2 t).mp h)) ((hcond0_3 t).mpr h3)
  have h15 : ∀ f, scM0_3.view.read (Elt F) (scM0_3.view.writes (Elt F) f (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.2.2.1) = (scl (iblk m c 8 t)) := scalesC15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) (fun h => h2 ((hcond0_2 t).mp h)) ((hcond0_3 t).mpr h3)
  unfold bodyAt0 stepPost
  iintro ⟨H0, H1, H2, H3, H4, H5, H6, H7, H8, H9, HS0, HS1, HS2, HS3⟩
  iapply ((runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, HS0, HS1, ⟨%e2, HS2⟩, ⟨%e3, HS3⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hO _
  iexists _; iexists _; iexists _; iexists _
  isplitr
  · ipureintro; exact hG
  isplitl [HS0]
  · unfold owns; iexists _; isplitr
    swap; · iexact HS0
    ipureintro; rfl
  isplitl [HS1]
  · iexact HS1
  isplitl [HS2]
  · unfold owns; iexists _; isplitr
    swap; · iexact HS2
    ipureintro; exact h14 _
  · unfold owns; iexists _; isplitr
    swap; · iexact HS3
    ipureintro; exact h15 _

set_option maxHeartbeats 4000000 in
/-- The body at a point of case D: from buffers in the state of the point before to the output block and the state of this
    point. -/
theorem stepD (c : Dev nD) (t : Fin cfg0.N) (h0 : ¬t.val % 60 = 0) (h1 : ¬t.val % 6 = 0) (h2 : ¬(t.val % 12 = 0 ∨ t.val % 12 = 1 ∨ t.val % 12 = 2 ∨ t.val % 12 = 3 ∨ t.val % 12 = 4 ∨ t.val % 12 = 5)) (h3 : (t.val % 12 = 6 ∨ t.val % 12 = 7 ∨ t.val % 12 = 8 ∨ t.val % 12 = 9 ∨ t.val % 12 = 10 ∨ t.val % 12 = 11)) (w0 w1 : Vec F S8960x512 .bf16)
    (s z : Vec F S70x512 .f32) (hp : Prev m c t.val w0 w1 s z) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ owns (c : Thread nD τ) scM0_0 fullShare w0 ∗ owns (c : Thread nD τ) scM0_1 fullShare w1 ∗ owns (c : Thread nD τ) scM0_2 fullShare s ∗ owns (c : Thread nD τ) scM0_3 fullShare z)
      ⊢ wp frame (wpE (defs₀ (F := F)) Variants.none c none) Set.univ (bodyAt0 t) (fun _ => stepPost m c t) := by
  have hN : t.val < 60 := lt_of_lt_of_eq t.isLt (show cfg0.N = 60 from N_0)
  obtain ⟨hs, hz, hc, hn⟩ := prev_same m c t h1 w0 w1 s z hp
  have hcur : w1 = Wd m c (cb t) := (if_neg (by omega : ¬t.val % 12 < 6)).symm.trans hc
  have hW : wdeq (iblk m c 6 t) s z = Wd m c (nx t) := by rw [iblk6, hs, hz]; rfl
  have hF : Filled (Wd m c (nx t)) (scM0_0.view.read (Elt F) (scM0_0.view.writes (Elt F) ((Memref.isWhole_whole _).unread w0) (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.1)) (t.val % 6 + 1) :=
    filled_step (by omega) (grid0.coords t) (coord1 t) (Memref.isWhole_whole _) (hW ▸ tilesD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) (fun h => h1 ((hcond0_1 t).mp h)) (fun h => h2 ((hcond0_2 t).mp h)) ((hcond0_3 t).mpr h3)) (fun _ => (if_neg (by omega : ¬t.val % 12 < 6) : (if t.val % 12 < 6 then w1 else w0) = w0) ▸ hn)
  have hG : Good m c t (scM0_0.view.read (Elt F) (scM0_0.view.writes (Elt F) ((Memref.isWhole_whole _).unread w0) (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.1)) w1 s z :=
    ⟨hs, hz, (if_neg (by omega : ¬t.val % 12 < 6)).trans hcur, (if_neg (by omega : ¬t.val % 12 < 6) : (if t.val % 12 < 6 then _ else _) = _) ▸ hF⟩
  have hO : ∀ f, (ms0_9 t).view.read (Elt F) ((ms0_9 t).view.writes (Elt F) f (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).1) = outVal m c t := fun f =>
    (outD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) (fun h => h1 ((hcond0_1 t).mp h)) (fun h => h2 ((hcond0_2 t).mp h)) ((hcond0_3 t).mpr h3) f).trans (congrArg (fun w => outBlk (iblk m c 0 t) w (iblk m c 1 t) (iblk m c 2 t)) hcur)
  unfold bodyAt0 stepPost
  iintro ⟨H0, H1, H2, H3, H4, H5, H6, H7, H8, H9, HS0, HS1, HS2, HS3⟩
  iapply ((runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) w0 w1 s z).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, HS0, HS1, HS2, HS3⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hO _
  iexists _; iexists _; iexists _; iexists _
  isplitr
  · ipureintro; exact hG
  isplitl [HS0]
  · unfold owns; iexists _; isplitr
    swap; · iexact HS0
    ipureintro; rfl
  isplitl [HS1]
  · iexact HS1
  isplitl [HS2]
  · iexact HS2
  · iexact HS3

set_option maxHeartbeats 4000000 in
/-- The body at a point of case E: from buffers in the state of the point before to the output block and the state of this
    point. -/
theorem stepE (c : Dev nD) (t : Fin cfg0.N) (h0 : ¬t.val % 60 = 0) (h1 : t.val % 6 = 0) (h2 : (t.val % 12 = 0 ∨ t.val % 12 = 1 ∨ t.val % 12 = 2 ∨ t.val % 12 = 3 ∨ t.val % 12 = 4 ∨ t.val % 12 = 5)) (h3 : ¬(t.val % 12 = 6 ∨ t.val % 12 = 7 ∨ t.val % 12 = 8 ∨ t.val % 12 = 9 ∨ t.val % 12 = 10 ∨ t.val % 12 = 11)) (w0 w1 : Vec F S8960x512 .bf16)
    (s z : Vec F S70x512 .f32) (hp : Prev m c t.val w0 w1 s z) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ owns (c : Thread nD τ) scM0_0 fullShare w0 ∗ owns (c : Thread nD τ) scM0_1 fullShare w1 ∗ owns (c : Thread nD τ) scM0_2 fullShare s ∗ owns (c : Thread nD τ) scM0_3 fullShare z)
      ⊢ wp frame (wpE (defs₀ (F := F)) Variants.none c none) Set.univ (bodyAt0 t) (fun _ => stepPost m c t) := by
  have hN : t.val < 60 := lt_of_lt_of_eq t.isLt (show cfg0.N = 60 from N_0)
  have hc := prev_full m c t h0 h1 w0 w1 s z hp
  have hcur : w0 = Wd m c (cb t) := (if_pos (by omega : t.val % 12 < 6)).symm.trans hc
  have hW : wdeq (iblk m c 6 t) (scl (iblk m c 7 t)) (scl (iblk m c 8 t)) = Wd m c (nx t) := by rw [iblk6, iblk7, iblk8]; rfl
  have hF : Filled (Wd m c (nx t)) (scM0_1.view.read (Elt F) (scM0_1.view.writes (Elt F) ((Memref.isWhole_whole _).unread w1) (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.1)) (t.val % 6 + 1) :=
    filled_step (by omega) (grid0.coords t) (coord1 t) (Memref.isWhole_whole _) (hW ▸ tilesE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) ((hcond0_2 t).mpr h2) (fun h => h3 ((hcond0_3 t).mp h))) (fun h => absurd h1 h)
  have hG : Good m c t w0 (scM0_1.view.read (Elt F) (scM0_1.view.writes (Elt F) ((Memref.isWhole_whole _).unread w1) (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.1)) (scl (iblk m c 7 t)) (scl (iblk m c 8 t)) :=
    ⟨congrArg scl (iblk7 m c t), congrArg scl (iblk8 m c t), (if_pos (by omega : t.val % 12 < 6)).trans hcur, (if_pos (by omega : t.val % 12 < 6) : (if t.val % 12 < 6 then _ else _) = _) ▸ hF⟩
  have hO : ∀ f, (ms0_9 t).view.read (Elt F) ((ms0_9 t).view.writes (Elt F) f (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).1) = outVal m c t := fun f =>
    (outE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) ((hcond0_2 t).mpr h2) (fun h => h3 ((hcond0_3 t).mp h)) f).trans (congrArg (fun w => outBlk (iblk m c 0 t) w (iblk m c 1 t) (iblk m c 2 t)) hcur)
  have h14 : ∀ f, scM0_2.view.read (Elt F) (scM0_2.view.writes (Elt F) f (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.1) = (scl (iblk m c 7 t)) := scalesE14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) ((hcond0_2 t).mpr h2) (fun h => h3 ((hcond0_3 t).mp h))
  have h15 : ∀ f, scM0_3.view.read (Elt F) (scM0_3.view.writes (Elt F) f (runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.2.1) = (scl (iblk m c 8 t)) := scalesE15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) w0 w1 s z (fun h => h0 ((hcond0_0 t).mp h)) ((hcond0_1 t).mpr h1) ((hcond0_2 t).mpr h2) (fun h => h3 ((hcond0_3 t).mp h))
  unfold bodyAt0 stepPost
  iintro ⟨H0, H1, H2, H3, H4, H5, H6, H7, H8, H9, HS0, HS1, HS2, HS3⟩
  iapply ((runE c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) w0 w1 s z).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro ⟨H0, H1, H2, H3, H4, H5, H6, H7, H8, ⟨%e9, H9⟩, HS0, HS1, ⟨%e2, HS2⟩, ⟨%e3, HS3⟩⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro; exact hO _
  iexists _; iexists _; iexists _; iexists _
  isplitr
  · ipureintro; exact hG
  isplitl [HS0]
  · iexact HS0
  isplitl [HS1]
  · unfold owns; iexists _; isplitr
    swap; · iexact HS1
    ipureintro; rfl
  isplitl [HS2]
  · unfold owns; iexists _; isplitr
    swap; · iexact HS2
    ipureintro; exact h14 _
  · unfold owns; iexists _; isplitr
    swap; · iexact HS3
    ipureintro; exact h15 _

end Cert.KernelIdeal.Hand

end
-- ==== Proof.Body.lean ====
/- The pipeline's proof data, its body obligation, and the launch of the ideal kernel. -/
module

public import proofs.«01_k».proof.Proof.Steps

@[expose] public section

-- membership in a rectangle of production extents (`View.cover_of_tiled`): the elaborator's structural look
-- recurses once per coordinate of the long axes
set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The region invariant before point `k`: the scratch buffers in the state of the point before, and the generator register. -/
def Phi (c : Dev nD) (k : ℕ) : sProp 𝕄 :=
  iprop((∃ w0, ∃ w1, ∃ s, ∃ z, ⌜Prev m c k w0 w1 s z⌝ ∗ owns (c : Thread nD τ) scM0_0 fullShare w0 ∗ owns (c : Thread nD τ) scM0_1 fullShare w1 ∗ owns (c : Thread nD τ) scM0_2 fullShare s ∗ owns (c : Thread nD τ) scM0_3 fullShare z) ∗ (∃ r, prngReg c r))

/-- The proof data of the pipeline on core `c`: the arrays as the region finds them; after the body at point `t` each input's
    buffer at its block and the output's at that point's output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outVal m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outVal m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

/-- The body at any point, from the state the point finds to the state it leaves. -/
theorem step (c : Dev nD) (t : Fin cfg0.N) (w0 w1 : Vec F S8960x512 .bf16) (s z : Vec F S70x512 .f32) (hp : Prev m c t.val w0 w1 s z) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ owns (c : Thread nD τ) scM0_0 fullShare w0 ∗ owns (c : Thread nD τ) scM0_1 fullShare w1 ∗ owns (c : Thread nD τ) scM0_2 fullShare s ∗ owns (c : Thread nD τ) scM0_3 fullShare z)
      ⊢ wp frame (wpE (defs₀ (F := F)) Variants.none c none) Set.univ (bodyAt0 t) (fun _ => stepPost m c t) := by
  have hN : t.val < 60 := lt_of_lt_of_eq t.isLt (show cfg0.N = 60 from N_0)
  by_cases h1 : t.val % 6 = 0
  · by_cases h0 : t.val % 60 = 0
    · exact stepA m c t h0 h1 (by omega) (by omega) w0 w1 s z hp
    · by_cases h2 : t.val % 12 < 6
      · exact stepE m c t h0 h1 (by omega) (by omega) w0 w1 s z hp
      · exact stepC m c t h0 h1 (by omega) (by omega) w0 w1 s z hp
  · by_cases h2 : t.val % 12 < 6
    · exact stepB m c t (by omega) h1 (by omega) (by omega) w0 w1 s z hp
    · exact stepD m c t (by omega) h1 (by omega) (by omega) w0 w1 s z hp

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
/-- The output's window is stored at every point. -/
theorem live9 : ∀ t : Fin cfg0.N, cfg0.idle 9 (grid0.coords t) = false :=
  (by decide +kernel : ∀ t : Fin grid0.N, idle0 9 (grid0.coords t) = false)

theorem leaves0_9 (c : Dev nD) (t : Fin cfg0.N) : (dats m 0 c).leavesExact 9 t = owns (c : Thread nD τ) (ms0_9 t) fullShare (outVal m c t) := by
  unfold Dat.leavesExact; rw [live9 t, after0_9]

set_option maxHeartbeats 4000000 in
/-- The body's obligation at any point, the windows one by one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8,
    leaves0_0, leaves0_1, leaves0_2, leaves0_3, leaves0_4, leaves0_5, leaves0_6, leaves0_7, leaves0_8, leaves0_9]
  rw [show (dats m 0 c).owesAt () t.succ = (dats m 0 c).owesAt () t.castSucc from rfl,
    show (dats m 0 c).Φ t.succ = Phi m c (t.val + 1) from rfl, show (dats m 0 c).Φ t.castSucc = Phi m c t.val from rfl]
  unfold Phi
  iintro ⟨⟨⟨%w0, %w1, %s, %z, %hp, HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) Variants.none c none) Set.univ)
  isplitl [H0 H1 H2 H3 H4 H5 H6 H7 H8 H9 HS0 HS1 HS2 HS3]
  · iapply (step m c t w0 w1 s z hp)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iexact HS3
  · unfold stepPost
    iintro %_ ⟨H0, H1, H2, H3, H4, H5, H6, H7, H8, H9, ⟨%v0, %v1, %s', %z', %hg, HS0, HS1, HS2, HS3⟩⟩
    isplitl [HS0 HS1 HS2 HS3 Hg]
    · isplitl [HS0 HS1 HS2 HS3]
      · iexists v0; iexists v1; iexists s'; iexists z'
        isplitr
        · ipureintro
          intro t' ht'
          obtain rfl : t' = t := Fin.ext (by omega)
          exact hg
        isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point: no point came before. -/
theorem hin (c : Dev nD) : Pipeline.ΦA spec0 c ⊢ (dats m 0 c).Φ 0 := by
  rw [show (dats m 0 c).Φ 0 = Phi m c 0 from rfl, PhiA0_eq]
  unfold Phi
  iintro ⟨⟨⟨%w0, HS0⟩, ⟨%w1, HS1⟩, ⟨%s, HS2⟩, ⟨%z, HS3⟩⟩, Hg⟩
  isplitl [HS0 HS1 HS2 HS3]
  · iexists w0; iexists w1; iexists s; iexists z
    isplitr
    · ipureintro; intro t' ht'; exact absurd ht' (Nat.succ_ne_zero _)
    isplitl [HS0]; · iexact HS0
    isplitl [HS1]; · iexact HS1
    isplitl [HS2]; · iexact HS2
    iexact HS3
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = Phi m c cfg0.N from rfl, PhiA0_eq]
  unfold Phi
  iintro ⟨⟨%w0, %w1, %s, %z, -, HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

variable (ρ : Dev nD → PrngReg)

set_option backward.isDefEq.respectTransparency.types false in
set_option maxHeartbeats 800000 in
/-- The launch: every execution of the program ends, with the arrays as the proof data says and every counter at zero. -/
theorem run_main_quiescent : θ_run defs (onTc (τ := τ) (main (F := F))) (s₀ m ρ) (fun r =>
    (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame claim: every execution ends, the argument arrays as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Ref.lean ====
/- The reference's result read at an index, over the extended reals. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

/-- A word's signed value, as an extended real. -/
def int {w : ℕ} (b : BitVec w) : EReal := ((b.toInt : ℝ) : EReal)

theorem int_sext (b : BitVec 8) : int (BitVec.signExtend 32 b) = int b := by
  unfold int; rw [BitVec.toInt_signExtend_of_le (by decide)]

theorem lo_nat : ∀ b : BitVec 8, (IntOp.andi (BitVec.setWidth 32 b) 15#32).toInt = (b &&& 15#8).toInt := by decide +kernel
theorem hi_nat : ∀ b : BitVec 8, (IntOp.shrsi ArithUnit.host (BitVec.setWidth 32 b) 4#32).toInt = (b >>> 4).toInt := by decide +kernel

/-- One half of the dequantised weights: the codes times their group's scale, minus the group's scaled zero point. -/
def half (q : IVec S4480x5120 32) (s z : Vec Ideal S35x5120 .i8) : FVec Ideal S4480x5120 .bf16 :=
  shapeCast _ (subf (mulf (shapeCast _ (truncf .bf16 (sitofp .f32 q) bitsLt_bf16_f32) shapeCasts_S4480x5120_S35x128x5120) (broadcastInDim S35x128x5120 ![0, 1, 2] bcast_S35x1x5120_S35x128x5120_0_1_2 (broadcastInDim S35x1x5120 ![0, 2] bcast_S35x5120_S35x1x5120_0_2 (truncf .bf16 (sitofp .f32 (extui 32 s natLt_8_32)) bitsLt_bf16_f32)))) (broadcastInDim S35x128x5120 ![0, 1, 2] bcast_S35x1x5120_S35x128x5120_0_1_2 (broadcastInDim S35x1x5120 ![0, 2] bcast_S35x5120_S35x1x5120_0_2 (truncf .bf16 (sitofp .f32 (extui 32 z natLt_8_32)) bitsLt_bf16_f32)))) shapeCasts_S35x128x5120_S4480x5120

theorem half_apply (q : IVec S4480x5120 32) (s z : Vec Ideal S35x5120 .i8) (k : Fin 4480) (n : Fin 5120) :
    half q s z (ix2 k n) = int (q (ix2 k n)) * int (BitVec.setWidth 32 (s (ix2 (⟨k.val / 128, by omega⟩ : Fin 35) n)))
      - int (BitVec.setWidth 32 (z (ix2 (⟨k.val / 128, by omega⟩ : Fin 35) n))) := by
  pointwise [half]
  rfl

/-- The low and the high codes of the packed bytes, as words. -/
def loW (p : Vec Ideal S4480x5120 .i8) : IVec S4480x5120 32 :=
  andi (extui 32 p natLt_8_32) (broadcastInDim S4480x5120 ![] bcast_S_S4480x5120 (constantI S_ 32 15#32))
def hiW (p : Vec Ideal S4480x5120 .i8) : IVec S4480x5120 32 :=
  Host.shrsi (extui 32 p natLt_8_32) (broadcastInDim S4480x5120 ![] bcast_S_S4480x5120 (constantI S_ 32 4#32))

theorem loW_apply (p : Vec Ideal S4480x5120 .i8) (k : Fin 4480) (n : Fin 5120) : int (loW p (ix2 k n)) = int (p (ix2 k n) &&& 15#8) := by
  pointwise [loW]
  unfold int; rw [lo_nat]
theorem hiW_apply (p : Vec Ideal S4480x5120 .i8) (k : Fin 4480) (n : Fin 5120) : int (hiW p (ix2 k n)) = int (p (ix2 k n) >>> 4) := by
  pointwise [hiW]
  unfold int; rw [hi_nat]

/-- The code of row `k`: the low nibble of its byte in the first half of the rows, the high nibble in the second. -/
def codeAt (p : Vec Ideal S4480x5120 .i8) (k : Fin 8960) (n : Fin 5120) : BitVec 8 :=
  if k.val < 4480 then p (ix2 (⟨k.val % 4480, by omega⟩ : Fin 4480) n) &&& 15#8
  else p (ix2 (⟨k.val % 4480, by omega⟩ : Fin 4480) n) >>> 4

/-- The dequantised weight at row `k` and column `n`. -/
def weight (p : Vec Ideal S4480x5120 .i8) (s z : Vec Ideal S70x5120 .i8) (k : Fin 8960) (n : Fin 5120) : EReal :=
  int (codeAt p k n) * int (BitVec.setWidth 32 (s (ix2 (⟨k.val / 128, by omega⟩ : Fin 70) n)))
    - int (BitVec.setWidth 32 (z (ix2 (⟨k.val / 128, by omega⟩ : Fin 70) n)))

/-- The reference's result, from its arguments. -/
def ref (x : Vec Ideal S4x1536x8960 .i8) (xs : Vec Ideal S4x1536 .f32) (p : Vec Ideal S4480x5120 .i8) (s z : Vec Ideal S70x5120 .i8)
    (cs : Vec Ideal S5120 .f32) : FVec Ideal S4x1536x5120 .bf16 :=
  truncf .bf16 (mulf (mulf (addf (Host.dotGeneral dot_S4x1536x4480_S4480x5120_S4x1536x5120_2_0_01_1_n_n none (extractStridedSlice S4x1536x4480 ![0, 0, 0] (truncf .bf16 (sitofp .f32 (extsi 32 x natLt_8_32)) bitsLt_bf16_f32) slices_S4x1536x8960_S4x1536x4480_0_0_0) (half (loW p) (extractStridedSlice S35x5120 ![0, 0] s slices_S70x5120_S35x5120_0_0) (extractStridedSlice S35x5120 ![0, 0] z slices_S70x5120_S35x5120_0_0))) (Host.dotGeneral dot_S4x1536x4480_S4480x5120_S4x1536x5120_2_0_01_1_n_n none (extractStridedSlice S4x1536x4480 ![0, 0, 4480] (truncf .bf16 (sitofp .f32 (extsi 32 x natLt_8_32)) bitsLt_bf16_f32) slices_S4x1536x8960_S4x1536x4480_0_0_4480) (half (hiW p) (extractStridedSlice S35x5120 ![35, 0] s slices_S70x5120_S35x5120_35_0) (extractStridedSlice S35x5120 ![35, 0] z slices_S70x5120_S35x5120_35_0)))) (broadcastInDim S4x1536x5120 ![0, 1, 2] bcast_S4x1536x1_S4x1536x5120_0_1_2 (broadcastInDim S4x1536x1 ![0, 1] bcast_S4x1536_S4x1536x1_0_1 xs))) (broadcastInDim S4x1536x5120 ![0, 1, 2] bcast_S1x1x5120_S4x1536x5120_0_1_2 (broadcastInDim S1x1x5120 ![2] bcast_S5120_S1x1x5120_2 cs))) bitsLt_bf16_f32

/-- The reference's result at an index: the whole row's product with the dequantised column, times the row's and the column's
    scales. The two half sums are one sum over all rows of the weights. -/
theorem ref_apply (x : Vec Ideal S4x1536x8960 .i8) (xs : Vec Ideal S4x1536 .f32) (p : Vec Ideal S4480x5120 .i8) (s z : Vec Ideal S70x5120 .i8)
    (cs : Vec Ideal S5120 .f32) (b : Fin 4) (r : Fin 1536) (n : Fin 5120) :
    ref x xs p s z cs (ix3 b r n)
      = (∑ k : Fin 8960, int (x (ix3 b r k)) * weight p s z k n) * (xs (ix2 b r) : EReal) * (cs (ix1 n) : EReal) := by
  pointwise [ref]
  have lo : ∀ k : Fin 4480, half (loW p) (extractStridedSlice S35x5120 ![0, 0] s slices_S70x5120_S35x5120_0_0)
      (extractStridedSlice S35x5120 ![0, 0] z slices_S70x5120_S35x5120_0_0) (ix2 k n) = weight p s z ⟨k.val, by omega⟩ n := fun k => by
    rw [half_apply, loW_apply]
    pointwise [weight, codeAt]
    have e : (⟨k.val % 4480, by omega⟩ : Fin 4480) = k := Fin.ext (Nat.mod_eq_of_lt k.isLt)
    rw [e]
  have hi : ∀ k : Fin 4480, half (hiW p) (extractStridedSlice S35x5120 ![35, 0] s slices_S70x5120_S35x5120_35_0)
      (extractStridedSlice S35x5120 ![35, 0] z slices_S70x5120_S35x5120_35_0) (ix2 k n) = weight p s z ⟨4480 + k.val, by omega⟩ n := fun k => by
    rw [half_apply, hiW_apply]
    pointwise [weight, codeAt]
    have e : (⟨(4480 + k.val) % 4480, by omega⟩ : Fin 4480) = k := Fin.ext (by simp only; omega)
    have e' : (⟨35 + k.val / 128, by omega⟩ : Fin 70) = ⟨(4480 + k.val) / 128, by omega⟩ := Fin.ext (by simp only; omega)
    rw [e, e']
  simp only [lo, hi]
  rw [Fin.sum_univ_two_halves 4480 4480 rfl fun k : Fin 8960 => int (x (ix3 b r k)) * weight p s z k n]
  simp only [← int_sext]
  rfl

set_option maxRecDepth 65536 in
/-- The reference's run, its result named by `ref`. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
          = ref (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5) :=
  (θ_run defs _ _).mono (fun _ h c => ⟨(h c).1.trans (by unfold ref half loW hiW; rfl), (h c).2⟩) (Value.run m ρ)

end Cert.ReferenceIdeal.Hand

end
-- ==== Proof.Value.lean ====
/- The kernel's result over the extended reals: each block it writes is a block of the matrix product with the dequantised
   weights, so the result array is the reference's. -/
module

public import proofs.«01_k».proof.Proof.Body
public import proofs.«01_k».proof.Proof.Ref
public import Idealize.ShloMosaic.Lib.Claim
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)
open Cert.ReferenceIdeal.Hand (int weight codeAt)

variable (m : (ℓ : Loc nD τ sig) → Buf (Elt Ideal) ℓ)

theorem outBlk_apply (x : Vec Ideal S1024x8960 .i8) (w : Vec Ideal S8960x512 .bf16) (a : Vec Ideal S1024x1 .f32) (b : Vec Ideal S1x512 .f32)
    (r : Fin 1024) (l : Fin 512) :
    outBlk x w a b (ix2 r l) = (∑ k : Fin 8960, int (x (ix2 r k)) * (w (ix2 k l) : EReal)) * (a (ix2 r 0) : EReal) * (b (ix2 0 l) : EReal) := by
  pointwise [outBlk, k0_pay69]
  rfl

/-- A column block's weights are the weights of its columns. -/
theorem Wd_apply (c : Dev nD) (n : Fin 10) (k : Fin 8960) (l : Fin 512) :
    Wd m c n (ix2 k l) = weight (m ((c : Thread nD τ).loc main_arg2)) (m ((c : Thread nD τ).loc main_arg3)) (m ((c : Thread nD τ).loc main_arg4))
      k ⟨n.val * 512 + l.val, by omega⟩ := by
  unfold Wd
  rw [wdeq_ix2]
  pointwise [dqs, scl, k0_pay66]
  unfold weight codeAt code pkb gsb gzb
  rw [V_main_arg2, V_main_arg3, V_main_arg4]
  rfl

/-- The written array in closed form: at row `y 0` and column `y 1`. -/
def G3 (c : Dev nD) : Vec Ideal S6144x5120 .bf16 := fun y =>
  (∑ k : Fin 8960, int (shapeCast S6144x8960 (m ((c : Thread nD τ).loc main_arg0)) shapeCasts_S4x1536x8960_S6144x8960 (ix2 (n0 := 6144) (y 0) k))
      * weight (m ((c : Thread nD τ).loc main_arg2)) (m ((c : Thread nD τ).loc main_arg3)) (m ((c : Thread nD τ).loc main_arg4)) k (y 1))
    * (shapeCast S6144x1 (m ((c : Thread nD τ).loc main_arg1)) shapeCasts_S4x1536_S6144x1 (ix2 (n0 := 6144) (y 0) (0 : Fin 1)) : EReal)
    * (shapeCast S1x5120 (m ((c : Thread nD τ).loc main_arg5)) shapeCasts_S5120_S1x5120 (ix2 (n1 := 5120) (0 : Fin 1) (y 1)) : EReal)

/-- What a point leaves in its block of the result is the closed form at the block's place in the array. -/
theorem point (c : Dev nD) (t : Fin cfg0.N) (r : Fin 1024) (l : Fin 512) :
    outVal m c t (ix2 r l) = G3 m c ((win0_9.blk t).view.emb (ix2 r l)) := by
  unfold outVal
  rw [outBlk_apply]
  simp only [Wd_apply]
  unfold G3
  have eR : ((win0_9.blk t).view.emb (ix2 r l)) 0 = (⟨t.val % 6 * 1024 + r.val, by omega⟩ : Fin 6144) := Fin.ext (by blk_simp [idx t])
  have eC : ((win0_9.blk t).view.emb (ix2 r l)) 1 = (⟨(cb t).val * 512 + l.val, by omega⟩ : Fin 5120) := Fin.ext (by blk_simp [idx t]; rfl)
  rw [eR, eC]
  have e0 : ∀ k : Fin 8960, iblk m c 0 t (ix2 r k) = shapeCast S6144x8960 (m ((c : Thread nD τ).loc main_arg0)) shapeCasts_S4x1536x8960_S6144x8960
      (ix2 (⟨t.val % 6 * 1024 + r.val, by omega⟩ : Fin 6144) k) := fun k => by
    blk_simp [iblk]
    entry_read
    blk_ext [idx t]
  have e1 : iblk m c 1 t (ix2 r (0 : Fin 1)) = shapeCast S6144x1 (m ((c : Thread nD τ).loc main_arg1)) shapeCasts_S4x1536_S6144x1
      (ix2 (⟨t.val % 6 * 1024 + r.val, by omega⟩ : Fin 6144) (0 : Fin 1)) := by
    blk_simp [iblk]
    entry_read
    blk_ext [idx t]
  have e2 : iblk m c 2 t (ix2 (0 : Fin 1) l) = shapeCast S1x5120 (m ((c : Thread nD τ).loc main_arg5)) shapeCasts_S5120_S1x5120
      (ix2 (0 : Fin 1) (⟨(cb t).val * 512 + l.val, by omega⟩ : Fin 5120)) := by
    have hcb : (cb t).val = t.val / 6 := rfl
    blk_simp [iblk]
    entry_read
    blk_ext [idx t]
  simp only [e0]
  rw [e1, e2]

theorem final3 (c : Dev nD) : (dats m 0 c).arrAt 9 cfg0.N = G3 m c := by
  refine (dats m 0 c).arrAt_eq_of_covers 9 _ (by decide +kernel) fun t _ y => ?_
  blk_simp
  rw [after0_9]
  exact point m c t (y 0) (y 1)

/-- Row `b * 1536 + s` of the activations' rows is row `s` of batch `b`; -/
theorem rows0 (x : Vec Ideal S4x1536x8960 .i8) (b : Fin 4) (s : Fin 1536) (k : Fin 8960) :
    shapeCast S6144x8960 x shapeCasts_S4x1536x8960_S6144x8960 (ix2 (⟨b.val * 1536 + s.val, by omega⟩ : Fin 6144) k) = x (ix3 b s k) := by
  pointwise []
  blk_ext []
/-- the same of the rows' scales; -/
theorem rows1 (x : Vec Ideal S4x1536 .f32) (b : Fin 4) (s : Fin 1536) :
    shapeCast S6144x1 x shapeCasts_S4x1536_S6144x1 (ix2 (⟨b.val * 1536 + s.val, by omega⟩ : Fin 6144) (0 : Fin 1)) = x (ix2 b s) := by
  pointwise []
  blk_ext []
/-- and the columns' scales keep their columns. -/
theorem cols (x : Vec Ideal S5120 .f32) (n : Fin 5120) :
    shapeCast S1x5120 x shapeCasts_S5120_S1x5120 (ix2 (0 : Fin 1) n) = x (ix1 n) := by
  pointwise []

/-- The written array, its rows split into batches and rows. -/
theorem G3_apply (c : Dev nD) (b : Fin 4) (s : Fin 1536) (n : Fin 5120) :
    shapeCast S4x1536x5120 (G3 m c) shapeCasts_S6144x5120_S4x1536x5120 (ix3 b s n)
      = (∑ k : Fin 8960, int (m ((c : Thread nD τ).loc main_arg0) (ix3 b s k))
          * weight (m ((c : Thread nD τ).loc main_arg2)) (m ((c : Thread nD τ).loc main_arg3)) (m ((c : Thread nD τ).loc main_arg4)) k n)
        * (m ((c : Thread nD τ).loc main_arg1) (ix2 b s) : EReal) * (m ((c : Thread nD τ).loc main_arg5) (ix1 n) : EReal) := by
  pointwise []
  have e0 : ∀ k : Fin 8960, shapeCast S6144x8960 (m ((c : Thread nD τ).loc main_arg0)) shapeCasts_S4x1536x8960_S6144x8960
      (ix2 (⟨b.val * 1536 + s.val, by omega⟩ : Fin 6144) k) = m ((c : Thread nD τ).loc main_arg0) (ix3 b s k) := fun k => rows0 _ b s k
  show (∑ k : Fin 8960, int (shapeCast S6144x8960 (m ((c : Thread nD τ).loc main_arg0)) shapeCasts_S4x1536x8960_S6144x8960
        (ix2 (⟨b.val * 1536 + s.val, by omega⟩ : Fin 6144) k)) * _)
      * (shapeCast S6144x1 (m ((c : Thread nD τ).loc main_arg1)) shapeCasts_S4x1536_S6144x1
          (ix2 (⟨b.val * 1536 + s.val, by omega⟩ : Fin 6144) (0 : Fin 1)) : EReal)
      * (shapeCast S1x5120 (m ((c : Thread nD τ).loc main_arg5)) shapeCasts_S5120_S1x5120 (ix2 (0 : Fin 1) n) : EReal) = _
  rw [rows1 _ b s, cols _ n]
  simp only [e0]
  rfl

/-- The result, the written array's rows split into batches and rows, is the reference's term over the same arguments. -/
theorem value_eq (c : Dev nD) : shapeCast S4x1536x5120 (G3 m c) shapeCasts_S6144x5120_S4x1536x5120
    = Cert.ReferenceIdeal.Hand.ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext j
  obtain ⟨b, s, n, rfl⟩ : ∃ (b : Fin 4) (s : Fin 1536) (n : Fin 5120), j = ix3 b s n := ⟨j 0, j 1, j 2, eq_ix3 j⟩
  exact (G3_apply m c b s n).trans (Cert.ReferenceIdeal.Hand.ref_apply _ _ _ _ _ _ b s n).symm

set_option backward.isDefEq.respectTransparency.types false in
/-- The returned array: the region's result, its rows split into batches and rows. -/
theorem W_main_v4 (c : Dev nD) : Pipeline.afterTail₀ cfgs (dats m) 0 (V0 m) [hostOps1] c main_v4
    = shapeCast S4x1536x5120 ((dats m 0 c).arrAt 9 cfg0.N) shapeCasts_S6144x5120_S4x1536x5120 := by
  unfold Pipeline.afterTail₀
  have e : Pipeline.withArrays (cfgs 0).spec c (V0 m c) (fun w => (dats m 0 c).arrAt w (cfgs 0).N) (Proc.devRef .tc main_v3)
      = (dats m 0 c).arrAt 9 cfg0.N :=
    Pipeline.withArrays_arr_shared (cfgs 0).spec c (V0 m c) _
      ((dats m 0 c).arrAt_sharedIn sharedIn0 (V0 m c) (A_eq m c) _) 9
  simp only [hostOps1, List.flatten_cons, List.flatten_nil, List.append_nil, StableHlo.after_cons, StableHlo.after_nil]
  rw [StableHlo.reshape_result]
  rw [e]
  rfl

variable (ρ : Dev nD → PrngReg)

/-- Every execution of the program ends with the reference's term in the result and the arguments as they were. -/
theorem run : θ_run defs (onTc (τ := τ) (main (F := Ideal))) ⟨m, fun _ => 0, ρ⟩ fun r => ∀ c : Dev nD,
    r.2.mem ((c.tc : Thread nD τ).loc main_v4)
        = Cert.ReferenceIdeal.Hand.ref (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).2 main_v4 (Pipeline.mem_restRefs_of main_v4 (by decide) (by decide))).trans
      ((W_main_v4 m c).trans ((congrArg (fun a => shapeCast S4x1536x5120 a shapeCasts_S6144x5120_S4x1536x5120) (final3 m c)).trans (value_eq m c))),
      h.2 c⟩)
    (θ_run_and (run_main m ρ) (frame_of m ρ (dats m) (A_eq m) (run_main m ρ)))

end Cert.KernelIdeal.Hand

end
-- ==== Proof.KernelFrame.lean ====
/- The frame of the kernel itself: its program is the ideal kernel's program, read over bit patterns instead of the extended
   reals, and the ideal kernel's frame is proved over any floats. -/
module

public import proofs.«01_k».proof.Proof.Body
public import proofs.«01_k».proof.Proof.Gen.Kernel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem

variable {F : FTy → Type} [FloatOps F]

/-- The two kernel functions are the same text. -/
theorem cc_eq : @Cert.Kernel.cc0_w4a8_linear F _ _ = @Cert.KernelIdeal.cc0_w4a8_linear F _ _ := rfl

/-- So are the tables of the kernels' bodies, label by label, -/
theorem defs0_eq : (Cert.Kernel.defs₀ (F := F)) = (Cert.KernelIdeal.defs₀ (F := F)) := by
  unfold Cert.Kernel.defs₀ Cert.KernelIdeal.defs₀
  refine congrArg Defs.onTc ?_
  funext l a
  match l, a with
  | ⟨0, _⟩, (t, s) => rfl

/-- the tables with the pipeline's entries, -/
theorem defs_eq : (Cert.Kernel.defs (F := F)) = (Cert.KernelIdeal.defs (F := F)) := by
  unfold Cert.Kernel.defs Cert.KernelIdeal.defs
  rw [defs0_eq]
  rfl

/-- and the host programs. -/
theorem main_eq : (Cert.Kernel.main (F := F)) = (Cert.KernelIdeal.main (F := F)) := rfl

/-- The frame claim: every execution ends, the argument arrays as they were and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [defs_eq, main_eq]
  exact Cert.KernelIdeal.Hand.frame m ρ

end Cert.Kernel.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Body
public import proofs.«01_k».proof.Proof.Value
public import proofs.«01_k».proof.Proof.KernelFrame
public import Idealize.ShloMosaic.Adequacy
public import Idealize.ShloMosaic.Init

@[expose] public section

noncomputable section

namespace Cert.Proof

open Idealize.ShloMosaic Idealize.SL.Sem Cert.Kernel

/-- The reference ends with its arguments as they were, and declares no semaphore. -/
theorem frame_reference : Cert.quiescent_ReferenceIdeal := by
  intro m ρ _
  exact (θ_run Cert.ReferenceIdeal.defs _ _).mono (fun r h => ⟨fun c => (h c).2,
      Idealize.ShloMosaic.sem_eq_zero_of_no_sems (by decide) r.2⟩) (Cert.ReferenceIdeal.Hand.run m ρ)

/-- The kernel and the reference end with the same result: the reference's term over the shared arguments. -/
theorem algebraic : Cert.algebraic_KernelIdeal_ReferenceIdeal := by
  intro m g m' g' _ hagree
  refine ⟨fun c => Cert.ReferenceIdeal.Hand.ref _ _ _ _ _ _, Cert.KernelIdeal.Hand.run m g,
    (θ_run Cert.ReferenceIdeal.defs _ _).mono (fun r h c => ⟨(h c).1.trans ?_, (h c).2⟩) (Cert.ReferenceIdeal.Hand.run m' g')⟩
  obtain ⟨a0, a1, a2, a3, a4, a5⟩ := hagree c
  rw [a0, a1, a2, a3, a4, a5]

/-- Everything the certificate claims. -/
theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g, frame_reference, trivial, algebraic⟩

end Cert.Proof

end
